-- ==== Defs.lean ====
def Pre_Kernel [hPre_positions_in_cache : Cert.Pre_positions_in_cache.Facts] (m : (ℓ : Loc Cert.Kernel.nD Cert.Kernel.τ Cert.Kernel.sig) → Buf (Elt Bits) ℓ) : Prop :=
  ∀ c : Dev Cert.Kernel.nD,
    (Cert.Pre_positions_in_cache.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_positions_in_cache : Cert.Pre_positions_in_cache.Facts] (m : (ℓ : Loc Cert.KernelIdeal.nD Cert.KernelIdeal.τ Cert.KernelIdeal.sig) → Buf (Elt Ideal) ℓ) : Prop :=
  ∀ c : Dev Cert.KernelIdeal.nD,
    (Cert.Pre_positions_in_cache.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_in_cache [hPre_positions_in_cache : Cert.Pre_positions_in_cache.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_in_cache.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Reference [hPre_positions_in_cache : Cert.Pre_positions_in_cache.Facts] (m : (ℓ : Loc Cert.Reference.nD Cert.Reference.τ Cert.Reference.sig) → Buf (Elt Bits) ℓ) : Prop :=
  ∀ c : Dev Cert.Reference.nD,
    (Cert.Pre_positions_in_cache.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5)) (m ((c.tc : Thread Cert.Reference.nD Cert.Reference.τ).loc Cert.Reference.main_arg6)) (m ((c.tc : Thread Cert.Reference.nD Cert.Reference.τ).loc Cert.Reference.main_arg7)) (m ((c.tc : Thread Cert.Reference.nD Cert.Reference.τ).loc Cert.Reference.main_arg8))) = (fun _ => 1#1)

def quiescent_Kernel [hKernel : Cert.Kernel.Facts] [hPre_positions_in_cache : Cert.Pre_positions_in_cache.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_positions_in_cache : Cert.Pre_positions_in_cache.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_positions_in_cache [hReferenceIdeal : Cert.ReferenceIdeal.Facts] [hPre_positions_in_cache : Cert.Pre_positions_in_cache.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_in_cache m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Reference [hReference : Cert.Reference.Facts] [hPre_positions_in_cache : Cert.Pre_positions_in_cache.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_positions_in_cache : Cert.Pre_positions_in_cache.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def bitexact_Kernel_Reference [hKernel : Cert.Kernel.Facts] [hReference : Cert.Reference.Facts] [hPre_positions_in_cache : Cert.Pre_positions_in_cache.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)
      ∧ m' ((c.tc : Thread Cert.Reference.nD Cert.Reference.τ).loc Cert.Reference.main_arg6) = m ((c.tc : Thread Cert.Kernel.nD Cert.Kernel.τ).loc Cert.Kernel.main_arg6)
      ∧ m' ((c.tc : Thread Cert.Reference.nD Cert.Reference.τ).loc Cert.Reference.main_arg7) = m ((c.tc : Thread Cert.Kernel.nD Cert.Kernel.τ).loc Cert.Kernel.main_arg7)
      ∧ m' ((c.tc : Thread Cert.Reference.nD Cert.Reference.τ).loc Cert.Reference.main_arg8) = m ((c.tc : Thread Cert.Kernel.nD Cert.Kernel.τ).loc Cert.Kernel.main_arg8)) →
    ∃ (v0 : (c : Dev Cert.Kernel.nD) → Buf (Elt Bits) ((c.tc : Thread Cert.Kernel.nD Cert.Kernel.τ).loc Cert.Kernel.main_v15)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v15) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6)
          ∧ r.2.mem ((c.tc : Thread Cert.Kernel.nD Cert.Kernel.τ).loc Cert.Kernel.main_arg7) = m ((c.tc : Thread Cert.Kernel.nD Cert.Kernel.τ).loc Cert.Kernel.main_arg7)
          ∧ r.2.mem ((c.tc : Thread Cert.Kernel.nD Cert.Kernel.τ).loc Cert.Kernel.main_arg8) = m ((c.tc : Thread Cert.Kernel.nD Cert.Kernel.τ).loc Cert.Kernel.main_arg8))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v73) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5)
          ∧ r.2.mem ((c.tc : Thread Cert.Reference.nD Cert.Reference.τ).loc Cert.Reference.main_arg6) = m' ((c.tc : Thread Cert.Reference.nD Cert.Reference.τ).loc Cert.Reference.main_arg6)
          ∧ r.2.mem ((c.tc : Thread Cert.Reference.nD Cert.Reference.τ).loc Cert.Reference.main_arg7) = m' ((c.tc : Thread Cert.Reference.nD Cert.Reference.τ).loc Cert.Reference.main_arg7)
          ∧ r.2.mem ((c.tc : Thread Cert.Reference.nD Cert.Reference.τ).loc Cert.Reference.main_arg8) = m' ((c.tc : Thread Cert.Reference.nD Cert.Reference.τ).loc Cert.Reference.main_arg8))

def Claim : Prop :=
  ∃ (hKernel : Cert.Kernel.Facts) (hKernelIdeal : Cert.KernelIdeal.Facts) (hReferenceIdeal : Cert.ReferenceIdeal.Facts) (hReference : Cert.Reference.Facts) (hPre_positions_in_cache : Cert.Pre_positions_in_cache.Facts),
    quiescent_Kernel (hKernel := hKernel) (hPre_positions_in_cache := hPre_positions_in_cache)
    ∧ quiescent_KernelIdeal (hKernelIdeal := hKernelIdeal) (hPre_positions_in_cache := hPre_positions_in_cache)
    ∧ quiescent_ReferenceIdeal (hReferenceIdeal := hReferenceIdeal)
    ∧ quiescent_ReferenceIdeal_pre_positions_in_cache (hReferenceIdeal := hReferenceIdeal) (hPre_positions_in_cache := hPre_positions_in_cache)
    ∧ quiescent_Reference (hReference := hReference) (hPre_positions_in_cache := hPre_positions_in_cache)
    ∧ preserves_Kernel_KernelIdeal
    ∧ algebraic_KernelIdeal_ReferenceIdeal (hKernelIdeal := hKernelIdeal) (hReferenceIdeal := hReferenceIdeal) (hPre_positions_in_cache := hPre_positions_in_cache)
    ∧ bitexact_Kernel_Reference (hKernel := hKernel) (hReference := hReference) (hPre_positions_in_cache := hPre_positions_in_cache)
-- ==== Pre_positions_in_cache.lean ====
abbrev S8x4x2048x128 : Shape := ⟨4, ![8, 4, 2048, 128]⟩
abbrev S8x4x1x128 : Shape := ⟨4, ![8, 4, 1, 128]⟩
abbrev S8x1 : Shape := ⟨2, ![8, 1]⟩
abbrev S_ : Shape := ⟨0, ![]⟩

class Facts : Prop where
  bcast_S_S8x1 : S_.BroadcastsInDim S8x1 (![] : Fin 0 → Fin S8x1.rank)
  reducesTo_S8x1_S_d0_1 : S8x1.ReducesTo [0, 1] S_
  h_S_ : 0 < S_.numel

variable [Facts]

def fn {F : FTy → Type} [FloatOps F] (main_arg0 : FVec F S8x4x2048x128 .f32) (main_arg1 : FVec F S8x4x2048x128 .f32) (main_arg2 : FVec F S8x4x2048x128 .f32) (main_arg3 : FVec F S8x4x2048x128 .f32) (main_arg4 : FVec F S8x4x1x128 .f32) (main_arg5 : FVec F S8x4x1x128 .f32) (main_arg6 : FVec F S8x4x1x128 .f32) (main_arg7 : FVec F S8x4x1x128 .f32) (main_arg8 : IVec S8x1 32) : IVec S_ 1 :=
  let main_c : IVec S_ 32 := constantI S_ 32 0#32
  let main_v0 : IVec S8x1 32 := broadcastInDim S8x1 ![] bcast_S_S8x1 main_c
  let main_v1 : IVec S8x1 1 := cmpi .sge main_arg8 main_v0
  let main_c_0 : IVec S_ 32 := constantI S_ 32 2048#32
  let main_v2 : IVec S8x1 32 := broadcastInDim S8x1 ![] bcast_S_S8x1 main_c_0
  let main_v3 : IVec S8x1 1 := cmpi .slt main_arg8 main_v2
  let main_v4 : IVec S8x1 1 := andi main_v1 main_v3
  let main_c_1 : IVec S_ 1 := constantI S_ 1 1#1
  let main_v5 : IVec S_ 1 := (fun x v => Host.reduce IntOp.andi x v reducesTo_S8x1_S_d0_1 h_S_) main_v4 main_c_1
  main_v5
-- ==== Kernel.lean ====
abbrev S8x4x2048x128 : Shape := ⟨4, ![8, 4, 2048, 128]⟩
abbrev S8x4x1x128 : Shape := ⟨4, ![8, 4, 1, 128]⟩
abbrev S8x1 : Shape := ⟨2, ![8, 1]⟩
abbrev S65536x128 : Shape := ⟨2, ![65536, 128]⟩
abbrev S1x8x4x1x128 : Shape := ⟨5, ![1, 8, 4, 1, 128]⟩
abbrev S4x8x4x1x128 : Shape := ⟨5, ![4, 8, 4, 1, 128]⟩
abbrev S128x128 : Shape := ⟨2, ![128, 128]⟩
abbrev S8 : Shape := ⟨1, ![8]⟩
abbrev S_ : Shape := ⟨0, ![]⟩
abbrev S24 : Shape := ⟨1, ![24]⟩
abbrev S4x65536x128 : Shape := ⟨3, ![4, 65536, 128]⟩
abbrev S4096x128 : Shape := ⟨2, ![4096, 128]⟩
abbrev S4x4096x128 : Shape := ⟨3, ![4, 4096, 128]⟩
abbrev S1x4096x128 : Shape := ⟨3, ![1, 4096, 128]⟩
abbrev S262144x128 : Shape := ⟨2, ![262144, 128]⟩
abbrev S1 : Shape := ⟨1, ![1]⟩
abbrev S1x128 : Shape := ⟨2, ![1, 128]⟩
abbrev S4x8x4x2048x128 : Shape := ⟨5, ![4, 8, 4, 2048, 128]⟩

abbrev nBuf : Table → Nat
  | .hbm => 27
  | .local .tc .vmem => 10
  | .local .scScalar .smem => 1
  | _ => 0

abbrev bufTy : (tb : Table) → Fin (nBuf tb) → BufTy
  | .hbm, ⟨0, _⟩ => ⟨S8x4x2048x128, .f32⟩
  | .hbm, ⟨1, _⟩ => ⟨S8x4x2048x128, .f32⟩
  | .hbm, ⟨2, _⟩ => ⟨S8x4x2048x128, .f32⟩
  | .hbm, ⟨3, _⟩ => ⟨S8x4x2048x128, .f32⟩
  | .hbm, ⟨4, _⟩ => ⟨S8x4x1x128, .f32⟩
  | .hbm, ⟨5, _⟩ => ⟨S8x4x1x128, .f32⟩
  | .hbm, ⟨6, _⟩ => ⟨S8x4x1x128, .f32⟩
  | .hbm, ⟨7, _⟩ => ⟨S8x4x1x128, .f32⟩
  | .hbm, ⟨8, _⟩ => ⟨S8x1, .i32⟩
  | .hbm, ⟨9, _⟩ => ⟨S65536x128, .f32⟩
  | .hbm, ⟨10, _⟩ => ⟨S65536x128, .f32⟩
  | .hbm, ⟨11, _⟩ => ⟨S65536x128, .f32⟩
  | .hbm, ⟨12, _⟩ => ⟨S65536x128, .f32⟩
  | .hbm, ⟨13, _⟩ => ⟨S1x8x4x1x128, .f32⟩
  | .hbm, ⟨14, _⟩ => ⟨S1x8x4x1x128, .f32⟩
  | .hbm, ⟨15, _⟩ => ⟨S1x8x4x1x128, .f32⟩
  | .hbm, ⟨16, _⟩ => ⟨S1x8x4x1x128, .f32⟩
  | .hbm, ⟨17, _⟩ => ⟨S4x8x4x1x128, .f32⟩
  | .hbm, ⟨18, _⟩ => ⟨S128x128, .f32⟩
  | .hbm, ⟨19, _⟩ => ⟨S8, .i32⟩
  | .hbm, ⟨20, _⟩ => ⟨S_, .i32⟩
  | .hbm, ⟨21, _⟩ => ⟨S_, .i32⟩
  | .hbm, ⟨22, _⟩ => ⟨S24, .i32⟩
  | .hbm, ⟨23, _⟩ => ⟨S4x65536x128, .f32⟩
  | .hbm, ⟨24, _⟩ => ⟨S262144x128, .f32⟩
  | .hbm, ⟨25, _⟩ => ⟨S262144x128, .f32⟩
  | .hbm, ⟨26, _⟩ => ⟨S4x8x4x2048x128, .f32⟩
  | .local .tc .vmem, ⟨0, _⟩ => ⟨S4096x128, .f32⟩
  | .local .tc .vmem, ⟨1, _⟩ => ⟨S4096x128, .f32⟩
  | .local .tc .vmem, ⟨2, _⟩ => ⟨S4096x128, .f32⟩
  | .local .tc .vmem, ⟨3, _⟩ => ⟨S4096x128, .f32⟩
  | .local .tc .vmem, ⟨4, _⟩ => ⟨S4096x128, .f32⟩
  | .local .tc .vmem, ⟨5, _⟩ => ⟨S4096x128, .f32⟩
  | .local .tc .vmem, ⟨6, _⟩ => ⟨S4096x128, .f32⟩
  | .local .tc .vmem, ⟨7, _⟩ => ⟨S4096x128, .f32⟩
  | .local .tc .vmem, ⟨8, _⟩ => ⟨S4x4096x128, .f32⟩
  | .local .tc .vmem, ⟨9, _⟩ => ⟨S4x4096x128, .f32⟩
  | .local .scScalar .smem, ⟨0, _⟩ => ⟨S24, .i32⟩
  | _, _ => ⟨S8x4x2048x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v11_scs : Ref sig .scScalar := ⟨.hbm, 22, rfl⟩
abbrev main_v9_scs : Ref sig .scScalar := ⟨.hbm, 18, rfl⟩
abbrev main_v14_scs : Ref sig .scScalar := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_scratch0 : Ref sig .scScalar := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![1], ![false]⟩

def k1_off1 (v1 : BitVec 32) (c0_i32_0 : BitVec 32) : Fin 2 → Nat :=
  let v3 : BitVec 32 := Scalar.addi c0_i32_0 v1
  let c0_i32_56 : BitVec 32 := 0#32
  ![v3.toNat, 0]

def k1_off2 (v1 : BitVec 32) (c131072_i32 : BitVec 32) : Fin 2 → Nat :=
  let c511_i32 : BitVec 32 := 511#32
  let v2 : BitVec 32 := Scalar.andi v1 c511_i32
  let v5 : BitVec 32 := Scalar.addi c131072_i32 v2
  let c0_i32_61 : BitVec 32 := 0#32
  ![v5.toNat, 0]
def k1_off3 (v8 : BitVec 32) (c2048_i32 : BitVec 32) : Fin 2 → Nat :=
  let v10 : BitVec 32 := Scalar.addi c2048_i32 v8
  let c0_i32_65 : BitVec 32 := 0#32
  ![v10.toNat, 0]

def k1_off4 (v8 : BitVec 32) (c133120_i32 : BitVec 32) : Fin 2 → Nat :=
  let c511_i32_2 : BitVec 32 := 511#32
  let v9 : BitVec 32 := Scalar.andi v8 c511_i32_2
  let v12 : BitVec 32 := Scalar.addi c133120_i32 v9
  let c0_i32_70 : BitVec 32 := 0#32
  ![v12.toNat, 0]
def k1_off5 (v15 : BitVec 32) (c4096_i32 : BitVec 32) : Fin 2 → Nat :=
  let v17 : BitVec 32 := Scalar.addi c4096_i32 v15
  let c0_i32_74 : BitVec 32 := 0#32
  ![v17.toNat, 0]

def k1_off6 (v15 : BitVec 32) (c135168_i32 : BitVec 32) : Fin 2 → Nat :=
  let c511_i32_4 : BitVec 32 := 511#32
  let v16 : BitVec 32 := Scalar.andi v15 c511_i32_4
  let v19 : BitVec 32 := Scalar.addi c135168_i32 v16
  let c0_i32_79 : BitVec 32 := 0#32
  ![v19.toNat, 0]
def k1_off7 (v22 : BitVec 32) (c6144_i32 : BitVec 32) : Fin 2 → Nat :=
  let v24 : BitVec 32 := Scalar.addi c6144_i32 v22
  let c0_i32_83 : BitVec 32 := 0#32
  ![v24.toNat, 0]

def k1_off8 (v22 : BitVec 32) (c137216_i32 : BitVec 32) : Fin 2 → Nat :=
  let c511_i32_6 : BitVec 32 := 511#32
  let v23 : BitVec 32 := Scalar.andi v22 c511_i32_6
  let v26 : BitVec 32 := Scalar.addi c137216_i32 v23
  let c0_i32_88 : BitVec 32 := 0#32
  ![v26.toNat, 0]
def k1_off9 (v29 : BitVec 32) (c8192_i32 : BitVec 32) : Fin 2 → Nat :=
  let v31 : BitVec 32 := Scalar.addi c8192_i32 v29
  let c0_i32_92 : BitVec 32 := 0#32
  ![v31.toNat, 0]

def k1_off10 (v29 : BitVec 32) (c139264_i32 : BitVec 32) : Fin 2 → Nat :=
  let c511_i32_7 : BitVec 32 := 511#32
  let v30 : BitVec 32 := Scalar.andi v29 c511_i32_7
  let v33 : BitVec 32 := Scalar.addi c139264_i32 v30
  let c0_i32_97 : BitVec 32 := 0#32
  ![v33.toNat, 0]
def k1_off11 (v36 : BitVec 32) (c10240_i32 : BitVec 32) : Fin 2 → Nat :=
  let v38 : BitVec 32 := Scalar.addi c10240_i32 v36
  let c0_i32_101 : BitVec 32 := 0#32
  ![v38.toNat, 0]

def k1_off12 (v36 : BitVec 32) (c141312_i32 : BitVec 32) : Fin 2 → Nat :=
  let c511_i32_9 : BitVec 32 := 511#32
  let v37 : BitVec 32 := Scalar.andi v36 c511_i32_9
  let v40 : BitVec 32 := Scalar.addi c141312_i32 v37
  let c0_i32_106 : BitVec 32 := 0#32
  ![v40.toNat, 0]
def k1_off13 (v43 : BitVec 32) (c12288_i32 : BitVec 32) : Fin 2 → Nat :=
  let v45 : BitVec 32 := Scalar.addi c12288_i32 v43
  let c0_i32_110 : BitVec 32 := 0#32
  ![v45.toNat, 0]

def k1_off14 (v43 : BitVec 32) (c143360_i32 : BitVec 32) : Fin 2 → Nat :=
  let c511_i32_11 : BitVec 32 := 511#32
  let v44 : BitVec 32 := Scalar.andi v43 c511_i32_11
  let v47 : BitVec 32 := Scalar.addi c143360_i32 v44
  let c0_i32_115 : BitVec 32 := 0#32
  ![v47.toNat, 0]
def k1_off15 (v50 : BitVec 32) (c14336_i32 : BitVec 32) : Fin 2 → Nat :=
  let v52 : BitVec 32 := Scalar.addi c14336_i32 v50
  let c0_i32_119 : BitVec 32 := 0#32
  ![v52.toNat, 0]

def k1_off16 (v50 : BitVec 32) (c145408_i32 : BitVec 32) : Fin 2 → Nat :=
  let c511_i32_13 : BitVec 32 := 511#32
  let v51 : BitVec 32 := Scalar.andi v50 c511_i32_13
  let v54 : BitVec 32 := Scalar.addi c145408_i32 v51
  let c0_i32_124 : BitVec 32 := 0#32
  ![v54.toNat, 0]
def k1_off17 (v57 : BitVec 32) (c16384_i32 : BitVec 32) : Fin 2 → Nat :=
  let v59 : BitVec 32 := Scalar.addi c16384_i32 v57
  let c0_i32_128 : BitVec 32 := 0#32
  ![v59.toNat, 0]

def k1_off18 (v57 : BitVec 32) (c147456_i32 : BitVec 32) : Fin 2 → Nat :=
  let c511_i32_14 : BitVec 32 := 511#32
  let v58 : BitVec 32 := Scalar.andi v57 c511_i32_14
  let v61 : BitVec 32 := Scalar.addi c147456_i32 v58
  let c0_i32_132 : BitVec 32 := 0#32
  ![v61.toNat, 0]
def k1_off19 (v64 : BitVec 32) (c18432_i32 : BitVec 32) : Fin 2 → Nat :=
  let v66 : BitVec 32 := Scalar.addi c18432_i32 v64
  let c0_i32_136 : BitVec 32 := 0#32
  ![v66.toNat, 0]

def k1_off20 (v64 : BitVec 32) (c149504_i32 : BitVec 32) : Fin 2 → Nat :=
  let c511_i32_16 : BitVec 32 := 511#32
  let v65 : BitVec 32 := Scalar.andi v64 c511_i32_16
  let v68 : BitVec 32 := Scalar.addi c149504_i32 v65
  let c0_i32_140 : BitVec 32 := 0#32
  ![v68.toNat, 0]
def k1_off21 (v71 : BitVec 32) (c20480_i32 : BitVec 32) : Fin 2 → Nat :=
  let v73 : BitVec 32 := Scalar.addi c20480_i32 v71
  let c0_i32_144 : BitVec 32 := 0#32
  ![v73.toNat, 0]

def k1_off22 (v71 : BitVec 32) (c151552_i32 : BitVec 32) : Fin 2 → Nat :=
  let c511_i32_18 : BitVec 32 := 511#32
  let v72 : BitVec 32 := Scalar.andi v71 c511_i32_18
  let v75 : BitVec 32 := Scalar.addi c151552_i32 v72
  let c0_i32_148 : BitVec 32 := 0#32
  ![v75.toNat, 0]
def k1_off23 (v78 : BitVec 32) (c22528_i32 : BitVec 32) : Fin 2 → Nat :=
  let v80 : BitVec 32 := Scalar.addi c22528_i32 v78
  let c0_i32_152 : BitVec 32 := 0#32
  ![v80.toNat, 0]

def k1_off24 (v78 : BitVec 32) (c153600_i32 : BitVec 32) : Fin 2 → Nat :=
  let c511_i32_20 : BitVec 32 := 511#32
  let v79 : BitVec 32 := Scalar.andi v78 c511_i32_20
  let v82 : BitVec 32 := Scalar.addi c153600_i32 v79
  let c0_i32_156 : BitVec 32 := 0#32
  ![v82.toNat, 0]
def k1_off25 (v85 : BitVec 32) (c24576_i32 : BitVec 32) : Fin 2 → Nat :=
  let v87 : BitVec 32 := Scalar.addi c24576_i32 v85
  let c0_i32_160 : BitVec 32 := 0#32
  ![v87.toNat, 0]

def k1_off26 (v85 : BitVec 32) (c155648_i32 : BitVec 32) : Fin 2 → Nat :=
  let c511_i32_21 : BitVec 32 := 511#32
  let v86 : BitVec 32 := Scalar.andi v85 c511_i32_21
  let v89 : BitVec 32 := Scalar.addi c155648_i32 v86
  let c0_i32_164 : BitVec 32 := 0#32
  ![v89.toNat, 0]
def k1_off27 (v92 : BitVec 32) (c26624_i32 : BitVec 32) : Fin 2 → Nat :=
  let v94 : BitVec 32 := Scalar.addi c26624_i32 v92
  let c0_i32_168 : BitVec 32 := 0#32
  ![v94.toNat, 0]

def k1_off28 (v92 : BitVec 32) (c157696_i32 : BitVec 32) : Fin 2 → Nat :=
  let c511_i32_23 : BitVec 32 := 511#32
  let v93 : BitVec 32 := Scalar.andi v92 c511_i32_23
  let v96 : BitVec 32 := Scalar.addi c157696_i32 v93
  let c0_i32_172 : BitVec 32 := 0#32
  ![v96.toNat, 0]
def k1_off29 (v99 : BitVec 32) (c28672_i32 : BitVec 32) : Fin 2 → Nat :=
  let v101 : BitVec 32 := Scalar.addi c28672_i32 v99
  let c0_i32_176 : BitVec 32 := 0#32
  ![v101.toNat, 0]

def k1_off30 (v99 : BitVec 32) (c159744_i32 : BitVec 32) : Fin 2 → Nat :=
  let c511_i32_25 : BitVec 32 := 511#32
  let v100 : BitVec 32 := Scalar.andi v99 c511_i32_25
  let v103 : BitVec 32 := Scalar.addi c159744_i32 v100
  let c0_i32_180 : BitVec 32 := 0#32
  ![v103.toNat, 0]
def k1_off31 (v106 : BitVec 32) (c30720_i32 : BitVec 32) : Fin 2 → Nat :=
  let v108 : BitVec 32 := Scalar.addi c30720_i32 v106
  let c0_i32_184 : BitVec 32 := 0#32
  ![v108.toNat, 0]

def k1_off32 (v106 : BitVec 32) (c161792_i32 : BitVec 32) : Fin 2 → Nat :=
  let c511_i32_27 : BitVec 32 := 511#32
  let v107 : BitVec 32 := Scalar.andi v106 c511_i32_27
  let v110 : BitVec 32 := Scalar.addi c161792_i32 v107
  let c0_i32_188 : BitVec 32 := 0#32
  ![v110.toNat, 0]
def k1_off33 (v113 : BitVec 32) (c32768_i32 : BitVec 32) : Fin 2 → Nat :=
  let v115 : BitVec 32 := Scalar.addi c32768_i32 v113
  let c0_i32_192 : BitVec 32 := 0#32
  ![v115.toNat, 0]

def k1_off34 (v113 : BitVec 32) (c163840_i32 : BitVec 32) : Fin 2 → Nat :=
  let c511_i32_28 : BitVec 32 := 511#32
  let v114 : BitVec 32 := Scalar.andi v113 c511_i32_28
  let v117 : BitVec 32 := Scalar.addi c163840_i32 v114
  let c0_i32_196 : BitVec 32 := 0#32
  ![v117.toNat, 0]
def k1_off35 (v120 : BitVec 32) (c34816_i32 : BitVec 32) : Fin 2 → Nat :=
  let v122 : BitVec 32 := Scalar.addi c34816_i32 v120
  let c0_i32_200 : BitVec 32 := 0#32
  ![v122.toNat, 0]

def k1_off36 (v120 : BitVec 32) (c165888_i32 : BitVec 32) : Fin 2 → Nat :=
  let c511_i32_30 : BitVec 32 := 511#32
  let v121 : BitVec 32 := Scalar.andi v120 c511_i32_30
  let v124 : BitVec 32 := Scalar.addi c165888_i32 v121
  let c0_i32_204 : BitVec 32 := 0#32
  ![v124.toNat, 0]
def k1_off37 (v127 : BitVec 32) (c36864_i32 : BitVec 32) : Fin 2 → Nat :=
  let v129 : BitVec 32 := Scalar.addi c36864_i32 v127
  let c0_i32_208 : BitVec 32 := 0#32
  ![v129.toNat, 0]

def k1_off38 (v127 : BitVec 32) (c167936_i32 : BitVec 32) : Fin 2 → Nat :=
  let c511_i32_32 : BitVec 32 := 511#32
  let v128 : BitVec 32 := Scalar.andi v127 c511_i32_32
  let v131 : BitVec 32 := Scalar.addi c167936_i32 v128
  let c0_i32_212 : BitVec 32 := 0#32
  ![v131.toNat, 0]
def k1_off39 (v134 : BitVec 32) (c38912_i32 : BitVec 32) : Fin 2 → Nat :=
  let v136 : BitVec 32 := Scalar.addi c38912_i32 v134
  let c0_i32_216 : BitVec 32 := 0#32
  ![v136.toNat, 0]

def k1_off40 (v134 : BitVec 32) (c169984_i32 : BitVec 32) : Fin 2 → Nat :=
  let c511_i32_34 : BitVec 32 := 511#32
  let v135 : BitVec 32 := Scalar.andi v134 c511_i32_34
  let v138 : BitVec 32 := Scalar.addi c169984_i32 v135
  let c0_i32_220 : BitVec 32 := 0#32
  ![v138.toNat, 0]
def k1_off41 (v141 : BitVec 32) (c40960_i32 : BitVec 32) : Fin 2 → Nat :=
  let v143 : BitVec 32 := Scalar.addi c40960_i32 v141
  let c0_i32_224 : BitVec 32 := 0#32
  ![v143.toNat, 0]

def k1_off42 (v141 : BitVec 32) (c172032_i32 : BitVec 32) : Fin 2 → Nat :=
  let c511_i32_35 : BitVec 32 := 511#32
  let v142 : BitVec 32 := Scalar.andi v141 c511_i32_35
  let v145 : BitVec 32 := Scalar.addi c172032_i32 v142
  let c0_i32_228 : BitVec 32 := 0#32
  ![v145.toNat, 0]
def k1_off43 (v148 : BitVec 32) (c43008_i32 : BitVec 32) : Fin 2 → Nat :=
  let v150 : BitVec 32 := Scalar.addi c43008_i32 v148
  let c0_i32_232 : BitVec 32 := 0#32
  ![v150.toNat, 0]

def k1_off44 (v148 : BitVec 32) (c174080_i32 : BitVec 32) : Fin 2 → Nat :=
  let c511_i32_37 : BitVec 32 := 511#32
  let v149 : BitVec 32 := Scalar.andi v148 c511_i32_37
  let v152 : BitVec 32 := Scalar.addi c174080_i32 v149
  let c0_i32_236 : BitVec 32 := 0#32
  ![v152.toNat, 0]
def k1_off45 (v155 : BitVec 32) (c45056_i32 : BitVec 32) : Fin 2 → Nat :=
  let v157 : BitVec 32 := Scalar.addi c45056_i32 v155
  let c0_i32_240 : BitVec 32 := 0#32
  ![v157.toNat, 0]

def k1_off46 (v155 : BitVec 32) (c176128_i32 : BitVec 32) : Fin 2 → Nat :=
  let c511_i32_39 : BitVec 32 := 511#32
  let v156 : BitVec 32 := Scalar.andi v155 c511_i32_39
  let v159 : BitVec 32 := Scalar.addi c176128_i32 v156
  let c0_i32_244 : BitVec 32 := 0#32
  ![v159.toNat, 0]
def k1_off47 (v162 : BitVec 32) (c47104_i32 : BitVec 32) : Fin 2 → Nat :=
  let v164 : BitVec 32 := Scalar.addi c47104_i32 v162
  let c0_i32_248 : BitVec 32 := 0#32
  ![v164.toNat, 0]

def k1_off48 (v162 : BitVec 32) (c178176_i32 : BitVec 32) : Fin 2 → Nat :=
  let c511_i32_41 : BitVec 32 := 511#32
  let v163 : BitVec 32 := Scalar.andi v162 c511_i32_41
  let v166 : BitVec 32 := Scalar.addi c178176_i32 v163
  let c0_i32_252 : BitVec 32 := 0#32
  ![v166.toNat, 0]
def k1_off49 (v169 : BitVec 32) (c49152_i32 : BitVec 32) : Fin 2 → Nat :=
  let v171 : BitVec 32 := Scalar.addi c49152_i32 v169
  let c0_i32_256 : BitVec 32 := 0#32
  ![v171.toNat, 0]

def k1_off50 (v169 : BitVec 32) (c180224_i32 : BitVec 32) : Fin 2 → Nat :=
  let c511_i32_42 : BitVec 32 := 511#32
  let v170 : BitVec 32 := Scalar.andi v169 c511_i32_42
  let v173 : BitVec 32 := Scalar.addi c180224_i32 v170
  let c0_i32_260 : BitVec 32 := 0#32
  ![v173.toNat, 0]
def k1_off51 (v176 : BitVec 32) (c51200_i32 : BitVec 32) : Fin 2 → Nat :=
  let v178 : BitVec 32 := Scalar.addi c51200_i32 v176
  let c0_i32_264 : BitVec 32 := 0#32
  ![v178.toNat, 0]

def k1_off52 (v176 : BitVec 32) (c182272_i32 : BitVec 32) : Fin 2 → Nat :=
  let c511_i32_44 : BitVec 32 := 511#32
  let v177 : BitVec 32 := Scalar.andi v176 c511_i32_44
  let v180 : BitVec 32 := Scalar.addi c182272_i32 v177
  let c0_i32_268 : BitVec 32 := 0#32
  ![v180.toNat, 0]
def k1_off53 (v183 : BitVec 32) (c53248_i32 : BitVec 32) : Fin 2 → Nat :=
  let v185 : BitVec 32 := Scalar.addi c53248_i32 v183
  let c0_i32_272 : BitVec 32 := 0#32
  ![v185.toNat, 0]

def k1_off54 (v183 : BitVec 32) (c184320_i32 : BitVec 32) : Fin 2 → Nat :=
  let c511_i32_46 : BitVec 32 := 511#32
  let v184 : BitVec 32 := Scalar.andi v183 c511_i32_46
  let v187 : BitVec 32 := Scalar.addi c184320_i32 v184
  let c0_i32_276 : BitVec 32 := 0#32
  ![v187.toNat, 0]
def k1_off55 (v190 : BitVec 32) (c55296_i32 : BitVec 32) : Fin 2 → Nat :=
  let v192 : BitVec 32 := Scalar.addi c55296_i32 v190
  let c0_i32_280 : BitVec 32 := 0#32
  ![v192.toNat, 0]

def k1_off56 (v190 : BitVec 32) (c186368_i32 : BitVec 32) : Fin 2 → Nat :=
  let c511_i32_48 : BitVec 32 := 511#32
  let v191 : BitVec 32 := Scalar.andi v190 c511_i32_48
  let v194 : BitVec 32 := Scalar.addi c186368_i32 v191
  let c0_i32_284 : BitVec 32 := 0#32
  ![v194.toNat, 0]
def k1_off57 (v197 : BitVec 32) (c57344_i32 : BitVec 32) : Fin 2 → Nat :=
  let v199 : BitVec 32 := Scalar.addi c57344_i32 v197
  let c0_i32_288 : BitVec 32 := 0#32
  ![v199.toNat, 0]

def k1_off58 (v197 : BitVec 32) (c188416_i32 : BitVec 32) : Fin 2 → Nat :=
  let c511_i32_49 : BitVec 32 := 511#32
  let v198 : BitVec 32 := Scalar.andi v197 c511_i32_49
  let v201 : BitVec 32 := Scalar.addi c188416_i32 v198
  let c0_i32_292 : BitVec 32 := 0#32
  ![v201.toNat, 0]
def k1_off59 (v204 : BitVec 32) (c59392_i32 : BitVec 32) : Fin 2 → Nat :=
  let v206 : BitVec 32 := Scalar.addi c59392_i32 v204
  let c0_i32_296 : BitVec 32 := 0#32
  ![v206.toNat, 0]

def k1_off60 (v204 : BitVec 32) (c190464_i32 : BitVec 32) : Fin 2 → Nat :=
  let c511_i32_51 : BitVec 32 := 511#32
  let v205 : BitVec 32 := Scalar.andi v204 c511_i32_51
  let v208 : BitVec 32 := Scalar.addi c190464_i32 v205
  let c0_i32_300 : BitVec 32 := 0#32
  ![v208.toNat, 0]
def k1_off61 (v211 : BitVec 32) (c61440_i32 : BitVec 32) : Fin 2 → Nat :=
  let v213 : BitVec 32 := Scalar.addi c61440_i32 v211
  let c0_i32_304 : BitVec 32 := 0#32
  ![v213.toNat, 0]

def k1_off62 (v211 : BitVec 32) (c192512_i32 : BitVec 32) : Fin 2 → Nat :=
  let c511_i32_53 : BitVec 32 := 511#32
  let v212 : BitVec 32 := Scalar.andi v211 c511_i32_53
  let v215 : BitVec 32 := Scalar.addi c192512_i32 v212
  let c0_i32_308 : BitVec 32 := 0#32
  ![v215.toNat, 0]
def k1_off63 (v218 : BitVec 32) (c63488_i32 : BitVec 32) : Fin 2 → Nat :=
  let v220 : BitVec 32 := Scalar.addi c63488_i32 v218
  let c0_i32_312 : BitVec 32 := 0#32
  ![v220.toNat, 0]

def k1_off64 (v218 : BitVec 32) (c194560_i32 : BitVec 32) : Fin 2 → Nat :=
  let c511_i32_55 : BitVec 32 := 511#32
  let v219 : BitVec 32 := Scalar.andi v218 c511_i32_55
  let v222 : BitVec 32 := Scalar.addi c194560_i32 v219
  let c0_i32_316 : BitVec 32 := 0#32
  ![v222.toNat, 0]

def k1_chk32 (v218 : BitVec 32) : Prop :=
  (∀ (r : Fin 2), ∀ a, (k1_off63 v218 (BitVec.ofNat 32 (63488 + 65536 * r.val))) a + S1x128.size a ≤ S262144x128.size a) ∧
  (∀ (r : Fin 2), ∀ a, (k1_off64 v218 (BitVec.ofNat 32 (194560 + 65536 * r.val))) a + S1x128.size a ≤ S262144x128.size a)
theorem k1_off63_inb : ∀ (v218 : BitVec 32) (k1_hw32 : k1_chk32 v218), ∀ (r : Fin 2), ∀ a, (k1_off63 v218 (BitVec.ofNat 32 (63488 + 65536 * r.val))) a + S1x128.size a ≤ S262144x128.size a := fun v218 k1_hw32 r => k1_hw32.1 r
theorem k1_off64_inb : ∀ (v218 : BitVec 32) (k1_hw32 : k1_chk32 v218), ∀ (r : Fin 2), ∀ a, (k1_off64 v218 (BitVec.ofNat 32 (194560 + 65536 * r.val))) a + S1x128.size a ≤ S262144x128.size a := fun v218 k1_hw32 r => k1_hw32.2 r

def k1_off65 (v1 : BitVec 32) (c0_i32_0 : BitVec 32) : Fin 2 → Nat :=
  let v3 : BitVec 32 := Scalar.addi c0_i32_0 v1
  let c0_i32_320 : BitVec 32 := 0#32
  ![v3.toNat, 0]
def k1_off66 (v1 : BitVec 32) (c131072_i32 : BitVec 32) : Fin 2 → Nat :=
  let c511_i32 : BitVec 32 := 511#32
  let v2 : BitVec 32 := Scalar.andi v1 c511_i32
  let v5 : BitVec 32 := Scalar.addi c131072_i32 v2
  let c0_i32_326 : BitVec 32 := 0#32
  ![v5.toNat, 0]

def k1_chk1 (v1 : BitVec 32) : Prop :=
  (∀ (r : Fin 2), ∀ a, (k1_off1 v1 (BitVec.ofNat 32 (65536 * r.val))) a + S1x128.size a ≤ S262144x128.size a) ∧
  (∀ (r : Fin 2), ∀ a, (k1_off2 v1 (BitVec.ofNat 32 (131072 + 65536 * r.val))) a + S1x128.size a ≤ S262144x128.size a) ∧
  (∀ (r : Fin 2), ∀ a, (k1_off65 v1 (BitVec.ofNat 32 (65536 * r.val))) a + S1x128.size a ≤ S262144x128.size a) ∧
  (∀ (r : Fin 2), ∀ a, (k1_off66 v1 (BitVec.ofNat 32 (131072 + 65536 * r.val))) a + S1x128.size a ≤ S262144x128.size a)
theorem k1_off1_inb : ∀ (v1 : BitVec 32) (k1_hw1 : k1_chk1 v1), ∀ (r : Fin 2), ∀ a, (k1_off1 v1 (BitVec.ofNat 32 (65536 * r.val))) a + S1x128.size a ≤ S262144x128.size a := fun v1 k1_hw1 r => k1_hw1.1 r
theorem k1_off2_inb : ∀ (v1 : BitVec 32) (k1_hw1 : k1_chk1 v1), ∀ (r : Fin 2), ∀ a, (k1_off2 v1 (BitVec.ofNat 32 (131072 + 65536 * r.val))) a + S1x128.size a ≤ S262144x128.size a := fun v1 k1_hw1 r => k1_hw1.2.1 r
theorem k1_off65_inb : ∀ (v1 : BitVec 32) (k1_hw1 : k1_chk1 v1), ∀ (r : Fin 2), ∀ a, (k1_off65 v1 (BitVec.ofNat 32 (65536 * r.val))) a + S1x128.size a ≤ S262144x128.size a := fun v1 k1_hw1 r => k1_hw1.2.2.1 r
theorem k1_off66_inb : ∀ (v1 : BitVec 32) (k1_hw1 : k1_chk1 v1), ∀ (r : Fin 2), ∀ a, (k1_off66 v1 (BitVec.ofNat 32 (131072 + 65536 * r.val))) a + S1x128.size a ≤ S262144x128.size a := fun v1 k1_hw1 r => k1_hw1.2.2.2 r

def k1_off67 (v8 : BitVec 32) (c2048_i32 : BitVec 32) : Fin 2 → Nat :=
  let v10 : BitVec 32 := Scalar.addi c2048_i32 v8
  let c0_i32_332 : BitVec 32 := 0#32
  ![v10.toNat, 0]
def k1_off68 (v8 : BitVec 32) (c133120_i32 : BitVec 32) : Fin 2 → Nat :=
  let c511_i32_2 : BitVec 32 := 511#32
  let v9 : BitVec 32 := Scalar.andi v8 c511_i32_2
  let v12 : BitVec 32 := Scalar.addi c133120_i32 v9
  let c0_i32_338 : BitVec 32 := 0#32
  ![v12.toNat, 0]

def k1_chk2 (v8 : BitVec 32) : Prop :=
  (∀ (r : Fin 2), ∀ a, (k1_off3 v8 (BitVec.ofNat 32 (2048 + 65536 * r.val))) a + S1x128.size a ≤ S262144x128.size a) ∧
  (∀ (r : Fin 2), ∀ a, (k1_off4 v8 (BitVec.ofNat 32 (133120 + 65536 * r.val))) a + S1x128.size a ≤ S262144x128.size a) ∧
  (∀ (r : Fin 2), ∀ a, (k1_off67 v8 (BitVec.ofNat 32 (2048 + 65536 * r.val))) a + S1x128.size a ≤ S262144x128.size a) ∧
  (∀ (r : Fin 2), ∀ a, (k1_off68 v8 (BitVec.ofNat 32 (133120 + 65536 * r.val))) a + S1x128.size a ≤ S262144x128.size a)
theorem k1_off3_inb : ∀ (v8 : BitVec 32) (k1_hw2 : k1_chk2 v8), ∀ (r : Fin 2), ∀ a, (k1_off3 v8 (BitVec.ofNat 32 (2048 + 65536 * r.val))) a + S1x128.size a ≤ S262144x128.size a := fun v8 k1_hw2 r => k1_hw2.1 r
theorem k1_off4_inb : ∀ (v8 : BitVec 32) (k1_hw2 : k1_chk2 v8), ∀ (r : Fin 2), ∀ a, (k1_off4 v8 (BitVec.ofNat 32 (133120 + 65536 * r.val))) a + S1x128.size a ≤ S262144x128.size a := fun v8 k1_hw2 r => k1_hw2.2.1 r
theorem k1_off67_inb : ∀ (v8 : BitVec 32) (k1_hw2 : k1_chk2 v8), ∀ (r : Fin 2), ∀ a, (k1_off67 v8 (BitVec.ofNat 32 (2048 + 65536 * r.val))) a + S1x128.size a ≤ S262144x128.size a := fun v8 k1_hw2 r => k1_hw2.2.2.1 r
theorem k1_off68_inb : ∀ (v8 : BitVec 32) (k1_hw2 : k1_chk2 v8), ∀ (r : Fin 2), ∀ a, (k1_off68 v8 (BitVec.ofNat 32 (133120 + 65536 * r.val))) a + S1x128.size a ≤ S262144x128.size a := fun v8 k1_hw2 r => k1_hw2.2.2.2 r

def k1_off69 (v15 : BitVec 32) (c4096_i32 : BitVec 32) : Fin 2 → Nat :=
  let v17 : BitVec 32 := Scalar.addi c4096_i32 v15
  let c0_i32_344 : BitVec 32 := 0#32
  ![v17.toNat, 0]
def k1_off70 (v15 : BitVec 32) (c135168_i32 : BitVec 32) : Fin 2 → Nat :=
  let c511_i32_4 : BitVec 32 := 511#32
  let v16 : BitVec 32 := Scalar.andi v15 c511_i32_4
  let v19 : BitVec 32 := Scalar.addi c135168_i32 v16
  let c0_i32_350 : BitVec 32 := 0#32
  ![v19.toNat, 0]

def k1_chk3 (v15 : BitVec 32) : Prop :=
  (∀ (r : Fin 2), ∀ a, (k1_off5 v15 (BitVec.ofNat 32 (4096 + 65536 * r.val))) a + S1x128.size a ≤ S262144x128.size a) ∧
  (∀ (r : Fin 2), ∀ a, (k1_off6 v15 (BitVec.ofNat 32 (135168 + 65536 * r.val))) a + S1x128.size a ≤ S262144x128.size a) ∧
  (∀ (r : Fin 2), ∀ a, (k1_off69 v15 (BitVec.ofNat 32 (4096 + 65536 * r.val))) a + S1x128.size a ≤ S262144x128.size a) ∧
  (∀ (r : Fin 2), ∀ a, (k1_off70 v15 (BitVec.ofNat 32 (135168 + 65536 * r.val))) a + S1x128.size a ≤ S262144x128.size a)
theorem k1_off5_inb : ∀ (v15 : BitVec 32) (k1_hw3 : k1_chk3 v15), ∀ (r : Fin 2), ∀ a, (k1_off5 v15 (BitVec.ofNat 32 (4096 + 65536 * r.val))) a + S1x128.size a ≤ S262144x128.size a := fun v15 k1_hw3 r => k1_hw3.1 r
theorem k1_off6_inb : ∀ (v15 : BitVec 32) (k1_hw3 : k1_chk3 v15), ∀ (r : Fin 2), ∀ a, (k1_off6 v15 (BitVec.ofNat 32 (135168 + 65536 * r.val))) a + S1x128.size a ≤ S262144x128.size a := fun v15 k1_hw3 r => k1_hw3.2.1 r
theorem k1_off69_inb : ∀ (v15 : BitVec 32) (k1_hw3 : k1_chk3 v15), ∀ (r : Fin 2), ∀ a, (k1_off69 v15 (BitVec.ofNat 32 (4096 + 65536 * r.val))) a + S1x128.size a ≤ S262144x128.size a := fun v15 k1_hw3 r => k1_hw3.2.2.1 r
theorem k1_off70_inb : ∀ (v15 : BitVec 32) (k1_hw3 : k1_chk3 v15), ∀ (r : Fin 2), ∀ a, (k1_off70 v15 (BitVec.ofNat 32 (135168 + 65536 * r.val))) a + S1x128.size a ≤ S262144x128.size a := fun v15 k1_hw3 r => k1_hw3.2.2.2 r

def k1_off71 (v22 : BitVec 32) (c6144_i32 : BitVec 32) : Fin 2 → Nat :=
  let v24 : BitVec 32 := Scalar.addi c6144_i32 v22
  let c0_i32_356 : BitVec 32 := 0#32
  ![v24.toNat, 0]
def k1_off72 (v22 : BitVec 32) (c137216_i32 : BitVec 32) : Fin 2 → Nat :=
  let c511_i32_6 : BitVec 32 := 511#32
  let v23 : BitVec 32 := Scalar.andi v22 c511_i32_6
  let v26 : BitVec 32 := Scalar.addi c137216_i32 v23
  let c0_i32_362 : BitVec 32 := 0#32
  ![v26.toNat, 0]

def k1_chk4 (v22 : BitVec 32) : Prop :=
  (∀ (r : Fin 2), ∀ a, (k1_off7 v22 (BitVec.ofNat 32 (6144 + 65536 * r.val))) a + S1x128.size a ≤ S262144x128.size a) ∧
  (∀ (r : Fin 2), ∀ a, (k1_off8 v22 (BitVec.ofNat 32 (137216 + 65536 * r.val))) a + S1x128.size a ≤ S262144x128.size a) ∧
  (∀ (r : Fin 2), ∀ a, (k1_off71 v22 (BitVec.ofNat 32 (6144 + 65536 * r.val))) a + S1x128.size a ≤ S262144x128.size a) ∧
  (∀ (r : Fin 2), ∀ a, (k1_off72 v22 (BitVec.ofNat 32 (137216 + 65536 * r.val))) a + S1x128.size a ≤ S262144x128.size a)
theorem k1_off7_inb : ∀ (v22 : BitVec 32) (k1_hw4 : k1_chk4 v22), ∀ (r : Fin 2), ∀ a, (k1_off7 v22 (BitVec.ofNat 32 (6144 + 65536 * r.val))) a + S1x128.size a ≤ S262144x128.size a := fun v22 k1_hw4 r => k1_hw4.1 r
theorem k1_off8_inb : ∀ (v22 : BitVec 32) (k1_hw4 : k1_chk4 v22), ∀ (r : Fin 2), ∀ a, (k1_off8 v22 (BitVec.ofNat 32 (137216 + 65536 * r.val))) a + S1x128.size a ≤ S262144x128.size a := fun v22 k1_hw4 r => k1_hw4.2.1 r
theorem k1_off71_inb : ∀ (v22 : BitVec 32) (k1_hw4 : k1_chk4 v22), ∀ (r : Fin 2), ∀ a, (k1_off71 v22 (BitVec.ofNat 32 (6144 + 65536 * r.val))) a + S1x128.size a ≤ S262144x128.size a := fun v22 k1_hw4 r => k1_hw4.2.2.1 r
theorem k1_off72_inb : ∀ (v22 : BitVec 32) (k1_hw4 : k1_chk4 v22), ∀ (r : Fin 2), ∀ a, (k1_off72 v22 (BitVec.ofNat 32 (137216 + 65536 * r.val))) a + S1x128.size a ≤ S262144x128.size a := fun v22 k1_hw4 r => k1_hw4.2.2.2 r

def k1_off73 (v29 : BitVec 32) (c8192_i32 : BitVec 32) : Fin 2 → Nat :=
  let v31 : BitVec 32 := Scalar.addi c8192_i32 v29
  let c0_i32_368 : BitVec 32 := 0#32
  ![v31.toNat, 0]
def k1_off74 (v29 : BitVec 32) (c139264_i32 : BitVec 32) : Fin 2 → Nat :=
  let c511_i32_7 : BitVec 32 := 511#32
  let v30 : BitVec 32 := Scalar.andi v29 c511_i32_7
  let v33 : BitVec 32 := Scalar.addi c139264_i32 v30
  let c0_i32_374 : BitVec 32 := 0#32
  ![v33.toNat, 0]

def k1_chk5 (v29 : BitVec 32) : Prop :=
  (∀ (r : Fin 2), ∀ a, (k1_off9 v29 (BitVec.ofNat 32 (8192 + 65536 * r.val))) a + S1x128.size a ≤ S262144x128.size a) ∧
  (∀ (r : Fin 2), ∀ a, (k1_off10 v29 (BitVec.ofNat 32 (139264 + 65536 * r.val))) a + S1x128.size a ≤ S262144x128.size a) ∧
  (∀ (r : Fin 2), ∀ a, (k1_off73 v29 (BitVec.ofNat 32 (8192 + 65536 * r.val))) a + S1x128.size a ≤ S262144x128.size a) ∧
  (∀ (r : Fin 2), ∀ a, (k1_off74 v29 (BitVec.ofNat 32 (139264 + 65536 * r.val))) a + S1x128.size a ≤ S262144x128.size a)
theorem k1_off9_inb : ∀ (v29 : BitVec 32) (k1_hw5 : k1_chk5 v29), ∀ (r : Fin 2), ∀ a, (k1_off9 v29 (BitVec.ofNat 32 (8192 + 65536 * r.val))) a + S1x128.size a ≤ S262144x128.size a := fun v29 k1_hw5 r => k1_hw5.1 r
theorem k1_off10_inb : ∀ (v29 : BitVec 32) (k1_hw5 : k1_chk5 v29), ∀ (r : Fin 2), ∀ a, (k1_off10 v29 (BitVec.ofNat 32 (139264 + 65536 * r.val))) a + S1x128.size a ≤ S262144x128.size a := fun v29 k1_hw5 r => k1_hw5.2.1 r
theorem k1_off73_inb : ∀ (v29 : BitVec 32) (k1_hw5 : k1_chk5 v29), ∀ (r : Fin 2), ∀ a, (k1_off73 v29 (BitVec.ofNat 32 (8192 + 65536 * r.val))) a + S1x128.size a ≤ S262144x128.size a := fun v29 k1_hw5 r => k1_hw5.2.2.1 r
theorem k1_off74_inb : ∀ (v29 : BitVec 32) (k1_hw5 : k1_chk5 v29), ∀ (r : Fin 2), ∀ a, (k1_off74 v29 (BitVec.ofNat 32 (139264 + 65536 * r.val))) a + S1x128.size a ≤ S262144x128.size a := fun v29 k1_hw5 r => k1_hw5.2.2.2 r

def k1_off75 (v36 : BitVec 32) (c10240_i32 : BitVec 32) : Fin 2 → Nat :=
  let v38 : BitVec 32 := Scalar.addi c10240_i32 v36
  let c0_i32_380 : BitVec 32 := 0#32
  ![v38.toNat, 0]
def k1_off76 (v36 : BitVec 32) (c141312_i32 : BitVec 32) : Fin 2 → Nat :=
  let c511_i32_9 : BitVec 32 := 511#32
  let v37 : BitVec 32 := Scalar.andi v36 c511_i32_9
  let v40 : BitVec 32 := Scalar.addi c141312_i32 v37
  let c0_i32_386 : BitVec 32 := 0#32
  ![v40.toNat, 0]

def k1_chk6 (v36 : BitVec 32) : Prop :=
  (∀ (r : Fin 2), ∀ a, (k1_off11 v36 (BitVec.ofNat 32 (10240 + 65536 * r.val))) a + S1x128.size a ≤ S262144x128.size a) ∧
  (∀ (r : Fin 2), ∀ a, (k1_off12 v36 (BitVec.ofNat 32 (141312 + 65536 * r.val))) a + S1x128.size a ≤ S262144x128.size a) ∧
  (∀ (r : Fin 2), ∀ a, (k1_off75 v36 (BitVec.ofNat 32 (10240 + 65536 * r.val))) a + S1x128.size a ≤ S262144x128.size a) ∧
  (∀ (r : Fin 2), ∀ a, (k1_off76 v36 (BitVec.ofNat 32 (141312 + 65536 * r.val))) a + S1x128.size a ≤ S262144x128.size a)
theorem k1_off11_inb : ∀ (v36 : BitVec 32) (k1_hw6 : k1_chk6 v36), ∀ (r : Fin 2), ∀ a, (k1_off11 v36 (BitVec.ofNat 32 (10240 + 65536 * r.val))) a + S1x128.size a ≤ S262144x128.size a := fun v36 k1_hw6 r => k1_hw6.1 r
theorem k1_off12_inb : ∀ (v36 : BitVec 32) (k1_hw6 : k1_chk6 v36), ∀ (r : Fin 2), ∀ a, (k1_off12 v36 (BitVec.ofNat 32 (141312 + 65536 * r.val))) a + S1x128.size a ≤ S262144x128.size a := fun v36 k1_hw6 r => k1_hw6.2.1 r
theorem k1_off75_inb : ∀ (v36 : BitVec 32) (k1_hw6 : k1_chk6 v36), ∀ (r : Fin 2), ∀ a, (k1_off75 v36 (BitVec.ofNat 32 (10240 + 65536 * r.val))) a + S1x128.size a ≤ S262144x128.size a := fun v36 k1_hw6 r => k1_hw6.2.2.1 r
theorem k1_off76_inb : ∀ (v36 : BitVec 32) (k1_hw6 : k1_chk6 v36), ∀ (r : Fin 2), ∀ a, (k1_off76 v36 (BitVec.ofNat 32 (141312 + 65536 * r.val))) a + S1x128.size a ≤ S262144x128.size a := fun v36 k1_hw6 r => k1_hw6.2.2.2 r

def k1_off77 (v43 : BitVec 32) (c12288_i32 : BitVec 32) : Fin 2 → Nat :=
  let v45 : BitVec 32 := Scalar.addi c12288_i32 v43
  let c0_i32_392 : BitVec 32 := 0#32
  ![v45.toNat, 0]
def k1_off78 (v43 : BitVec 32) (c143360_i32 : BitVec 32) : Fin 2 → Nat :=
  let c511_i32_11 : BitVec 32 := 511#32
  let v44 : BitVec 32 := Scalar.andi v43 c511_i32_11
  let v47 : BitVec 32 := Scalar.addi c143360_i32 v44
  let c0_i32_398 : BitVec 32 := 0#32
  ![v47.toNat, 0]

def k1_chk7 (v43 : BitVec 32) : Prop :=
  (∀ (r : Fin 2), ∀ a, (k1_off13 v43 (BitVec.ofNat 32 (12288 + 65536 * r.val))) a + S1x128.size a ≤ S262144x128.size a) ∧
  (∀ (r : Fin 2), ∀ a, (k1_off14 v43 (BitVec.ofNat 32 (143360 + 65536 * r.val))) a + S1x128.size a ≤ S262144x128.size a) ∧
  (∀ (r : Fin 2), ∀ a, (k1_off77 v43 (BitVec.ofNat 32 (12288 + 65536 * r.val))) a + S1x128.size a ≤ S262144x128.size a) ∧
  (∀ (r : Fin 2), ∀ a, (k1_off78 v43 (BitVec.ofNat 32 (143360 + 65536 * r.val))) a + S1x128.size a ≤ S262144x128.size a)
theorem k1_off13_inb : ∀ (v43 : BitVec 32) (k1_hw7 : k1_chk7 v43), ∀ (r : Fin 2), ∀ a, (k1_off13 v43 (BitVec.ofNat 32 (12288 + 65536 * r.val))) a + S1x128.size a ≤ S262144x128.size a := fun v43 k1_hw7 r => k1_hw7.1 r
theorem k1_off14_inb : ∀ (v43 : BitVec 32) (k1_hw7 : k1_chk7 v43), ∀ (r : Fin 2), ∀ a, (k1_off14 v43 (BitVec.ofNat 32 (143360 + 65536 * r.val))) a + S1x128.size a ≤ S262144x128.size a := fun v43 k1_hw7 r => k1_hw7.2.1 r
theorem k1_off77_inb : ∀ (v43 : BitVec 32) (k1_hw7 : k1_chk7 v43), ∀ (r : Fin 2), ∀ a, (k1_off77 v43 (BitVec.ofNat 32 (12288 + 65536 * r.val))) a + S1x128.size a ≤ S262144x128.size a := fun v43 k1_hw7 r => k1_hw7.2.2.1 r
theorem k1_off78_inb : ∀ (v43 : BitVec 32) (k1_hw7 : k1_chk7 v43), ∀ (r : Fin 2), ∀ a, (k1_off78 v43 (BitVec.ofNat 32 (143360 + 65536 * r.val))) a + S1x128.size a ≤ S262144x128.size a := fun v43 k1_hw7 r => k1_hw7.2.2.2 r

def k1_off79 (v50 : BitVec 32) (c14336_i32 : BitVec 32) : Fin 2 → Nat :=
  let v52 : BitVec 32 := Scalar.addi c14336_i32 v50
  let c0_i32_404 : BitVec 32 := 0#32
  ![v52.toNat, 0]
def k1_off80 (v50 : BitVec 32) (c145408_i32 : BitVec 32) : Fin 2 → Nat :=
  let c511_i32_13 : BitVec 32 := 511#32
  let v51 : BitVec 32 := Scalar.andi v50 c511_i32_13
  let v54 : BitVec 32 := Scalar.addi c145408_i32 v51
  let c0_i32_410 : BitVec 32 := 0#32
  ![v54.toNat, 0]

def k1_chk8 (v50 : BitVec 32) : Prop :=
  (∀ (r : Fin 2), ∀ a, (k1_off15 v50 (BitVec.ofNat 32 (14336 + 65536 * r.val))) a + S1x128.size a ≤ S262144x128.size a) ∧
  (∀ (r : Fin 2), ∀ a, (k1_off16 v50 (BitVec.ofNat 32 (145408 + 65536 * r.val))) a + S1x128.size a ≤ S262144x128.size a) ∧
  (∀ (r : Fin 2), ∀ a, (k1_off79 v50 (BitVec.ofNat 32 (14336 + 65536 * r.val))) a + S1x128.size a ≤ S262144x128.size a) ∧
  (∀ (r : Fin 2), ∀ a, (k1_off80 v50 (BitVec.ofNat 32 (145408 + 65536 * r.val))) a + S1x128.size a ≤ S262144x128.size a)
theorem k1_off15_inb : ∀ (v50 : BitVec 32) (k1_hw8 : k1_chk8 v50), ∀ (r : Fin 2), ∀ a, (k1_off15 v50 (BitVec.ofNat 32 (14336 + 65536 * r.val))) a + S1x128.size a ≤ S262144x128.size a := fun v50 k1_hw8 r => k1_hw8.1 r
theorem k1_off16_inb : ∀ (v50 : BitVec 32) (k1_hw8 : k1_chk8 v50), ∀ (r : Fin 2), ∀ a, (k1_off16 v50 (BitVec.ofNat 32 (145408 + 65536 * r.val))) a + S1x128.size a ≤ S262144x128.size a := fun v50 k1_hw8 r => k1_hw8.2.1 r
theorem k1_off79_inb : ∀ (v50 : BitVec 32) (k1_hw8 : k1_chk8 v50), ∀ (r : Fin 2), ∀ a, (k1_off79 v50 (BitVec.ofNat 32 (14336 + 65536 * r.val))) a + S1x128.size a ≤ S262144x128.size a := fun v50 k1_hw8 r => k1_hw8.2.2.1 r
theorem k1_off80_inb : ∀ (v50 : BitVec 32) (k1_hw8 : k1_chk8 v50), ∀ (r : Fin 2), ∀ a, (k1_off80 v50 (BitVec.ofNat 32 (145408 + 65536 * r.val))) a + S1x128.size a ≤ S262144x128.size a := fun v50 k1_hw8 r => k1_hw8.2.2.2 r

def k1_off81 (v57 : BitVec 32) (c16384_i32 : BitVec 32) : Fin 2 → Nat :=
  let v59 : BitVec 32 := Scalar.addi c16384_i32 v57
  let c0_i32_416 : BitVec 32 := 0#32
  ![v59.toNat, 0]
def k1_off82 (v57 : BitVec 32) (c147456_i32 : BitVec 32) : Fin 2 → Nat :=
  let c511_i32_14 : BitVec 32 := 511#32
  let v58 : BitVec 32 := Scalar.andi v57 c511_i32_14
  let v61 : BitVec 32 := Scalar.addi c147456_i32 v58
  let c0_i32_422 : BitVec 32 := 0#32
  ![v61.toNat, 0]

def k1_chk9 (v57 : BitVec 32) : Prop :=
  (∀ (r : Fin 2), ∀ a, (k1_off17 v57 (BitVec.ofNat 32 (16384 + 65536 * r.val))) a + S1x128.size a ≤ S262144x128.size a) ∧
  (∀ (r : Fin 2), ∀ a, (k1_off18 v57 (BitVec.ofNat 32 (147456 + 65536 * r.val))) a + S1x128.size a ≤ S262144x128.size a) ∧
  (∀ (r : Fin 2), ∀ a, (k1_off81 v57 (BitVec.ofNat 32 (16384 + 65536 * r.val))) a + S1x128.size a ≤ S262144x128.size a) ∧
  (∀ (r : Fin 2), ∀ a, (k1_off82 v57 (BitVec.ofNat 32 (147456 + 65536 * r.val))) a + S1x128.size a ≤ S262144x128.size a)
theorem k1_off17_inb : ∀ (v57 : BitVec 32) (k1_hw9 : k1_chk9 v57), ∀ (r : Fin 2), ∀ a, (k1_off17 v57 (BitVec.ofNat 32 (16384 + 65536 * r.val))) a + S1x128.size a ≤ S262144x128.size a := fun v57 k1_hw9 r => k1_hw9.1 r
theorem k1_off18_inb : ∀ (v57 : BitVec 32) (k1_hw9 : k1_chk9 v57), ∀ (r : Fin 2), ∀ a, (k1_off18 v57 (BitVec.ofNat 32 (147456 + 65536 * r.val))) a + S1x128.size a ≤ S262144x128.size a := fun v57 k1_hw9 r => k1_hw9.2.1 r
theorem k1_off81_inb : ∀ (v57 : BitVec 32) (k1_hw9 : k1_chk9 v57), ∀ (r : Fin 2), ∀ a, (k1_off81 v57 (BitVec.ofNat 32 (16384 + 65536 * r.val))) a + S1x128.size a ≤ S262144x128.size a := fun v57 k1_hw9 r => k1_hw9.2.2.1 r
theorem k1_off82_inb : ∀ (v57 : BitVec 32) (k1_hw9 : k1_chk9 v57), ∀ (r : Fin 2), ∀ a, (k1_off82 v57 (BitVec.ofNat 32 (147456 + 65536 * r.val))) a + S1x128.size a ≤ S262144x128.size a := fun v57 k1_hw9 r => k1_hw9.2.2.2 r

def k1_off83 (v64 : BitVec 32) (c18432_i32 : BitVec 32) : Fin 2 → Nat :=
  let v66 : BitVec 32 := Scalar.addi c18432_i32 v64
  let c0_i32_428 : BitVec 32 := 0#32
  ![v66.toNat, 0]
def k1_off84 (v64 : BitVec 32) (c149504_i32 : BitVec 32) : Fin 2 → Nat :=
  let c511_i32_16 : BitVec 32 := 511#32
  let v65 : BitVec 32 := Scalar.andi v64 c511_i32_16
  let v68 : BitVec 32 := Scalar.addi c149504_i32 v65
  let c0_i32_434 : BitVec 32 := 0#32
  ![v68.toNat, 0]

def k1_chk10 (v64 : BitVec 32) : Prop :=
  (∀ (r : Fin 2), ∀ a, (k1_off19 v64 (BitVec.ofNat 32 (18432 + 65536 * r.val))) a + S1x128.size a ≤ S262144x128.size a) ∧
  (∀ (r : Fin 2), ∀ a, (k1_off20 v64 (BitVec.ofNat 32 (149504 + 65536 * r.val))) a + S1x128.size a ≤ S262144x128.size a) ∧
  (∀ (r : Fin 2), ∀ a, (k1_off83 v64 (BitVec.ofNat 32 (18432 + 65536 * r.val))) a + S1x128.size a ≤ S262144x128.size a) ∧
  (∀ (r : Fin 2), ∀ a, (k1_off84 v64 (BitVec.ofNat 32 (149504 + 65536 * r.val))) a + S1x128.size a ≤ S262144x128.size a)
theorem k1_off19_inb : ∀ (v64 : BitVec 32) (k1_hw10 : k1_chk10 v64), ∀ (r : Fin 2), ∀ a, (k1_off19 v64 (BitVec.ofNat 32 (18432 + 65536 * r.val))) a + S1x128.size a ≤ S262144x128.size a := fun v64 k1_hw10 r => k1_hw10.1 r
theorem k1_off20_inb : ∀ (v64 : BitVec 32) (k1_hw10 : k1_chk10 v64), ∀ (r : Fin 2), ∀ a, (k1_off20 v64 (BitVec.ofNat 32 (149504 + 65536 * r.val))) a + S1x128.size a ≤ S262144x128.size a := fun v64 k1_hw10 r => k1_hw10.2.1 r
theorem k1_off83_inb : ∀ (v64 : BitVec 32) (k1_hw10 : k1_chk10 v64), ∀ (r : Fin 2), ∀ a, (k1_off83 v64 (BitVec.ofNat 32 (18432 + 65536 * r.val))) a + S1x128.size a ≤ S262144x128.size a := fun v64 k1_hw10 r => k1_hw10.2.2.1 r
theorem k1_off84_inb : ∀ (v64 : BitVec 32) (k1_hw10 : k1_chk10 v64), ∀ (r : Fin 2), ∀ a, (k1_off84 v64 (BitVec.ofNat 32 (149504 + 65536 * r.val))) a + S1x128.size a ≤ S262144x128.size a := fun v64 k1_hw10 r => k1_hw10.2.2.2 r

def k1_off85 (v71 : BitVec 32) (c20480_i32 : BitVec 32) : Fin 2 → Nat :=
  let v73 : BitVec 32 := Scalar.addi c20480_i32 v71
  let c0_i32_440 : BitVec 32 := 0#32
  ![v73.toNat, 0]
def k1_off86 (v71 : BitVec 32) (c151552_i32 : BitVec 32) : Fin 2 → Nat :=
  let c511_i32_18 : BitVec 32 := 511#32
  let v72 : BitVec 32 := Scalar.andi v71 c511_i32_18
  let v75 : BitVec 32 := Scalar.addi c151552_i32 v72
  let c0_i32_446 : BitVec 32 := 0#32
  ![v75.toNat, 0]

def k1_chk11 (v71 : BitVec 32) : Prop :=
  (∀ (r : Fin 2), ∀ a, (k1_off21 v71 (BitVec.ofNat 32 (20480 + 65536 * r.val))) a + S1x128.size a ≤ S262144x128.size a) ∧
  (∀ (r : Fin 2), ∀ a, (k1_off22 v71 (BitVec.ofNat 32 (151552 + 65536 * r.val))) a + S1x128.size a ≤ S262144x128.size a) ∧
  (∀ (r : Fin 2), ∀ a, (k1_off85 v71 (BitVec.ofNat 32 (20480 + 65536 * r.val))) a + S1x128.size a ≤ S262144x128.size a) ∧
  (∀ (r : Fin 2), ∀ a, (k1_off86 v71 (BitVec.ofNat 32 (151552 + 65536 * r.val))) a + S1x128.size a ≤ S262144x128.size a)
theorem k1_off21_inb : ∀ (v71 : BitVec 32) (k1_hw11 : k1_chk11 v71), ∀ (r : Fin 2), ∀ a, (k1_off21 v71 (BitVec.ofNat 32 (20480 + 65536 * r.val))) a + S1x128.size a ≤ S262144x128.size a := fun v71 k1_hw11 r => k1_hw11.1 r
theorem k1_off22_inb : ∀ (v71 : BitVec 32) (k1_hw11 : k1_chk11 v71), ∀ (r : Fin 2), ∀ a, (k1_off22 v71 (BitVec.ofNat 32 (151552 + 65536 * r.val))) a + S1x128.size a ≤ S262144x128.size a := fun v71 k1_hw11 r => k1_hw11.2.1 r
theorem k1_off85_inb : ∀ (v71 : BitVec 32) (k1_hw11 : k1_chk11 v71), ∀ (r : Fin 2), ∀ a, (k1_off85 v71 (BitVec.ofNat 32 (20480 + 65536 * r.val))) a + S1x128.size a ≤ S262144x128.size a := fun v71 k1_hw11 r => k1_hw11.2.2.1 r
theorem k1_off86_inb : ∀ (v71 : BitVec 32) (k1_hw11 : k1_chk11 v71), ∀ (r : Fin 2), ∀ a, (k1_off86 v71 (BitVec.ofNat 32 (151552 + 65536 * r.val))) a + S1x128.size a ≤ S262144x128.size a := fun v71 k1_hw11 r => k1_hw11.2.2.2 r

def k1_off87 (v78 : BitVec 32) (c22528_i32 : BitVec 32) : Fin 2 → Nat :=
  let v80 : BitVec 32 := Scalar.addi c22528_i32 v78
  let c0_i32_452 : BitVec 32 := 0#32
  ![v80.toNat, 0]
def k1_off88 (v78 : BitVec 32) (c153600_i32 : BitVec 32) : Fin 2 → Nat :=
  let c511_i32_20 : BitVec 32 := 511#32
  let v79 : BitVec 32 := Scalar.andi v78 c511_i32_20
  let v82 : BitVec 32 := Scalar.addi c153600_i32 v79
  let c0_i32_458 : BitVec 32 := 0#32
  ![v82.toNat, 0]

def k1_chk12 (v78 : BitVec 32) : Prop :=
  (∀ (r : Fin 2), ∀ a, (k1_off23 v78 (BitVec.ofNat 32 (22528 + 65536 * r.val))) a + S1x128.size a ≤ S262144x128.size a) ∧
  (∀ (r : Fin 2), ∀ a, (k1_off24 v78 (BitVec.ofNat 32 (153600 + 65536 * r.val))) a + S1x128.size a ≤ S262144x128.size a) ∧
  (∀ (r : Fin 2), ∀ a, (k1_off87 v78 (BitVec.ofNat 32 (22528 + 65536 * r.val))) a + S1x128.size a ≤ S262144x128.size a) ∧
  (∀ (r : Fin 2), ∀ a, (k1_off88 v78 (BitVec.ofNat 32 (153600 + 65536 * r.val))) a + S1x128.size a ≤ S262144x128.size a)
theorem k1_off23_inb : ∀ (v78 : BitVec 32) (k1_hw12 : k1_chk12 v78), ∀ (r : Fin 2), ∀ a, (k1_off23 v78 (BitVec.ofNat 32 (22528 + 65536 * r.val))) a + S1x128.size a ≤ S262144x128.size a := fun v78 k1_hw12 r => k1_hw12.1 r
theorem k1_off24_inb : ∀ (v78 : BitVec 32) (k1_hw12 : k1_chk12 v78), ∀ (r : Fin 2), ∀ a, (k1_off24 v78 (BitVec.ofNat 32 (153600 + 65536 * r.val))) a + S1x128.size a ≤ S262144x128.size a := fun v78 k1_hw12 r => k1_hw12.2.1 r
theorem k1_off87_inb : ∀ (v78 : BitVec 32) (k1_hw12 : k1_chk12 v78), ∀ (r : Fin 2), ∀ a, (k1_off87 v78 (BitVec.ofNat 32 (22528 + 65536 * r.val))) a + S1x128.size a ≤ S262144x128.size a := fun v78 k1_hw12 r => k1_hw12.2.2.1 r
theorem k1_off88_inb : ∀ (v78 : BitVec 32) (k1_hw12 : k1_chk12 v78), ∀ (r : Fin 2), ∀ a, (k1_off88 v78 (BitVec.ofNat 32 (153600 + 65536 * r.val))) a + S1x128.size a ≤ S262144x128.size a := fun v78 k1_hw12 r => k1_hw12.2.2.2 r

def k1_off89 (v85 : BitVec 32) (c24576_i32 : BitVec 32) : Fin 2 → Nat :=
  let v87 : BitVec 32 := Scalar.addi c24576_i32 v85
  let c0_i32_464 : BitVec 32 := 0#32
  ![v87.toNat, 0]
def k1_off90 (v85 : BitVec 32) (c155648_i32 : BitVec 32) : Fin 2 → Nat :=
  let c511_i32_21 : BitVec 32 := 511#32
  let v86 : BitVec 32 := Scalar.andi v85 c511_i32_21
  let v89 : BitVec 32 := Scalar.addi c155648_i32 v86
  let c0_i32_470 : BitVec 32 := 0#32
  ![v89.toNat, 0]

def k1_chk13 (v85 : BitVec 32) : Prop :=
  (∀ (r : Fin 2), ∀ a, (k1_off25 v85 (BitVec.ofNat 32 (24576 + 65536 * r.val))) a + S1x128.size a ≤ S262144x128.size a) ∧
  (∀ (r : Fin 2), ∀ a, (k1_off26 v85 (BitVec.ofNat 32 (155648 + 65536 * r.val))) a + S1x128.size a ≤ S262144x128.size a) ∧
  (∀ (r : Fin 2), ∀ a, (k1_off89 v85 (BitVec.ofNat 32 (24576 + 65536 * r.val))) a + S1x128.size a ≤ S262144x128.size a) ∧
  (∀ (r : Fin 2), ∀ a, (k1_off90 v85 (BitVec.ofNat 32 (155648 + 65536 * r.val))) a + S1x128.size a ≤ S262144x128.size a)
theorem k1_off25_inb : ∀ (v85 : BitVec 32) (k1_hw13 : k1_chk13 v85), ∀ (r : Fin 2), ∀ a, (k1_off25 v85 (BitVec.ofNat 32 (24576 + 65536 * r.val))) a + S1x128.size a ≤ S262144x128.size a := fun v85 k1_hw13 r => k1_hw13.1 r
theorem k1_off26_inb : ∀ (v85 : BitVec 32) (k1_hw13 : k1_chk13 v85), ∀ (r : Fin 2), ∀ a, (k1_off26 v85 (BitVec.ofNat 32 (155648 + 65536 * r.val))) a + S1x128.size a ≤ S262144x128.size a := fun v85 k1_hw13 r => k1_hw13.2.1 r
theorem k1_off89_inb : ∀ (v85 : BitVec 32) (k1_hw13 : k1_chk13 v85), ∀ (r : Fin 2), ∀ a, (k1_off89 v85 (BitVec.ofNat 32 (24576 + 65536 * r.val))) a + S1x128.size a ≤ S262144x128.size a := fun v85 k1_hw13 r => k1_hw13.2.2.1 r
theorem k1_off90_inb : ∀ (v85 : BitVec 32) (k1_hw13 : k1_chk13 v85), ∀ (r : Fin 2), ∀ a, (k1_off90 v85 (BitVec.ofNat 32 (155648 + 65536 * r.val))) a + S1x128.size a ≤ S262144x128.size a := fun v85 k1_hw13 r => k1_hw13.2.2.2 r

def k1_off91 (v92 : BitVec 32) (c26624_i32 : BitVec 32) : Fin 2 → Nat :=
  let v94 : BitVec 32 := Scalar.addi c26624_i32 v92
  let c0_i32_476 : BitVec 32 := 0#32
  ![v94.toNat, 0]
def k1_off92 (v92 : BitVec 32) (c157696_i32 : BitVec 32) : Fin 2 → Nat :=
  let c511_i32_23 : BitVec 32 := 511#32
  let v93 : BitVec 32 := Scalar.andi v92 c511_i32_23
  let v96 : BitVec 32 := Scalar.addi c157696_i32 v93
  let c0_i32_482 : BitVec 32 := 0#32
  ![v96.toNat, 0]

def k1_chk14 (v92 : BitVec 32) : Prop :=
  (∀ (r : Fin 2), ∀ a, (k1_off27 v92 (BitVec.ofNat 32 (26624 + 65536 * r.val))) a + S1x128.size a ≤ S262144x128.size a) ∧
  (∀ (r : Fin 2), ∀ a, (k1_off28 v92 (BitVec.ofNat 32 (157696 + 65536 * r.val))) a + S1x128.size a ≤ S262144x128.size a) ∧
  (∀ (r : Fin 2), ∀ a, (k1_off91 v92 (BitVec.ofNat 32 (26624 + 65536 * r.val))) a + S1x128.size a ≤ S262144x128.size a) ∧
  (∀ (r : Fin 2), ∀ a, (k1_off92 v92 (BitVec.ofNat 32 (157696 + 65536 * r.val))) a + S1x128.size a ≤ S262144x128.size a)
theorem k1_off27_inb : ∀ (v92 : BitVec 32) (k1_hw14 : k1_chk14 v92), ∀ (r : Fin 2), ∀ a, (k1_off27 v92 (BitVec.ofNat 32 (26624 + 65536 * r.val))) a + S1x128.size a ≤ S262144x128.size a := fun v92 k1_hw14 r => k1_hw14.1 r
theorem k1_off28_inb : ∀ (v92 : BitVec 32) (k1_hw14 : k1_chk14 v92), ∀ (r : Fin 2), ∀ a, (k1_off28 v92 (BitVec.ofNat 32 (157696 + 65536 * r.val))) a + S1x128.size a ≤ S262144x128.size a := fun v92 k1_hw14 r => k1_hw14.2.1 r
theorem k1_off91_inb : ∀ (v92 : BitVec 32) (k1_hw14 : k1_chk14 v92), ∀ (r : Fin 2), ∀ a, (k1_off91 v92 (BitVec.ofNat 32 (26624 + 65536 * r.val))) a + S1x128.size a ≤ S262144x128.size a := fun v92 k1_hw14 r => k1_hw14.2.2.1 r
theorem k1_off92_inb : ∀ (v92 : BitVec 32) (k1_hw14 : k1_chk14 v92), ∀ (r : Fin 2), ∀ a, (k1_off92 v92 (BitVec.ofNat 32 (157696 + 65536 * r.val))) a + S1x128.size a ≤ S262144x128.size a := fun v92 k1_hw14 r => k1_hw14.2.2.2 r

def k1_off93 (v99 : BitVec 32) (c28672_i32 : BitVec 32) : Fin 2 → Nat :=
  let v101 : BitVec 32 := Scalar.addi c28672_i32 v99
  let c0_i32_488 : BitVec 32 := 0#32
  ![v101.toNat, 0]
def k1_off94 (v99 : BitVec 32) (c159744_i32 : BitVec 32) : Fin 2 → Nat :=
  let c511_i32_25 : BitVec 32 := 511#32
  let v100 : BitVec 32 := Scalar.andi v99 c511_i32_25
  let v103 : BitVec 32 := Scalar.addi c159744_i32 v100
  let c0_i32_494 : BitVec 32 := 0#32
  ![v103.toNat, 0]

def k1_chk15 (v99 : BitVec 32) : Prop :=
  (∀ (r : Fin 2), ∀ a, (k1_off29 v99 (BitVec.ofNat 32 (28672 + 65536 * r.val))) a + S1x128.size a ≤ S262144x128.size a) ∧
  (∀ (r : Fin 2), ∀ a, (k1_off30 v99 (BitVec.ofNat 32 (159744 + 65536 * r.val))) a + S1x128.size a ≤ S262144x128.size a) ∧
  (∀ (r : Fin 2), ∀ a, (k1_off93 v99 (BitVec.ofNat 32 (28672 + 65536 * r.val))) a + S1x128.size a ≤ S262144x128.size a) ∧
  (∀ (r : Fin 2), ∀ a, (k1_off94 v99 (BitVec.ofNat 32 (159744 + 65536 * r.val))) a + S1x128.size a ≤ S262144x128.size a)
theorem k1_off29_inb : ∀ (v99 : BitVec 32) (k1_hw15 : k1_chk15 v99), ∀ (r : Fin 2), ∀ a, (k1_off29 v99 (BitVec.ofNat 32 (28672 + 65536 * r.val))) a + S1x128.size a ≤ S262144x128.size a := fun v99 k1_hw15 r => k1_hw15.1 r
theorem k1_off30_inb : ∀ (v99 : BitVec 32) (k1_hw15 : k1_chk15 v99), ∀ (r : Fin 2), ∀ a, (k1_off30 v99 (BitVec.ofNat 32 (159744 + 65536 * r.val))) a + S1x128.size a ≤ S262144x128.size a := fun v99 k1_hw15 r => k1_hw15.2.1 r
theorem k1_off93_inb : ∀ (v99 : BitVec 32) (k1_hw15 : k1_chk15 v99), ∀ (r : Fin 2), ∀ a, (k1_off93 v99 (BitVec.ofNat 32 (28672 + 65536 * r.val))) a + S1x128.size a ≤ S262144x128.size a := fun v99 k1_hw15 r => k1_hw15.2.2.1 r
theorem k1_off94_inb : ∀ (v99 : BitVec 32) (k1_hw15 : k1_chk15 v99), ∀ (r : Fin 2), ∀ a, (k1_off94 v99 (BitVec.ofNat 32 (159744 + 65536 * r.val))) a + S1x128.size a ≤ S262144x128.size a := fun v99 k1_hw15 r => k1_hw15.2.2.2 r

def k1_off95 (v106 : BitVec 32) (c30720_i32 : BitVec 32) : Fin 2 → Nat :=
  let v108 : BitVec 32 := Scalar.addi c30720_i32 v106
  let c0_i32_500 : BitVec 32 := 0#32
  ![v108.toNat, 0]
def k1_off96 (v106 : BitVec 32) (c161792_i32 : BitVec 32) : Fin 2 → Nat :=
  let c511_i32_27 : BitVec 32 := 511#32
  let v107 : BitVec 32 := Scalar.andi v106 c511_i32_27
  let v110 : BitVec 32 := Scalar.addi c161792_i32 v107
  let c0_i32_506 : BitVec 32 := 0#32
  ![v110.toNat, 0]

def k1_chk16 (v106 : BitVec 32) : Prop :=
  (∀ (r : Fin 2), ∀ a, (k1_off31 v106 (BitVec.ofNat 32 (30720 + 65536 * r.val))) a + S1x128.size a ≤ S262144x128.size a) ∧
  (∀ (r : Fin 2), ∀ a, (k1_off32 v106 (BitVec.ofNat 32 (161792 + 65536 * r.val))) a + S1x128.size a ≤ S262144x128.size a) ∧
  (∀ (r : Fin 2), ∀ a, (k1_off95 v106 (BitVec.ofNat 32 (30720 + 65536 * r.val))) a + S1x128.size a ≤ S262144x128.size a) ∧
  (∀ (r : Fin 2), ∀ a, (k1_off96 v106 (BitVec.ofNat 32 (161792 + 65536 * r.val))) a + S1x128.size a ≤ S262144x128.size a)
theorem k1_off31_inb : ∀ (v106 : BitVec 32) (k1_hw16 : k1_chk16 v106), ∀ (r : Fin 2), ∀ a, (k1_off31 v106 (BitVec.ofNat 32 (30720 + 65536 * r.val))) a + S1x128.size a ≤ S262144x128.size a := fun v106 k1_hw16 r => k1_hw16.1 r
theorem k1_off32_inb : ∀ (v106 : BitVec 32) (k1_hw16 : k1_chk16 v106), ∀ (r : Fin 2), ∀ a, (k1_off32 v106 (BitVec.ofNat 32 (161792 + 65536 * r.val))) a + S1x128.size a ≤ S262144x128.size a := fun v106 k1_hw16 r => k1_hw16.2.1 r
theorem k1_off95_inb : ∀ (v106 : BitVec 32) (k1_hw16 : k1_chk16 v106), ∀ (r : Fin 2), ∀ a, (k1_off95 v106 (BitVec.ofNat 32 (30720 + 65536 * r.val))) a + S1x128.size a ≤ S262144x128.size a := fun v106 k1_hw16 r => k1_hw16.2.2.1 r
theorem k1_off96_inb : ∀ (v106 : BitVec 32) (k1_hw16 : k1_chk16 v106), ∀ (r : Fin 2), ∀ a, (k1_off96 v106 (BitVec.ofNat 32 (161792 + 65536 * r.val))) a + S1x128.size a ≤ S262144x128.size a := fun v106 k1_hw16 r => k1_hw16.2.2.2 r

def k1_off97 (v113 : BitVec 32) (c32768_i32 : BitVec 32) : Fin 2 → Nat :=
  let v115 : BitVec 32 := Scalar.addi c32768_i32 v113
  let c0_i32_512 : BitVec 32 := 0#32
  ![v115.toNat, 0]
def k1_off98 (v113 : BitVec 32) (c163840_i32 : BitVec 32) : Fin 2 → Nat :=
  let c511_i32_28 : BitVec 32 := 511#32
  let v114 : BitVec 32 := Scalar.andi v113 c511_i32_28
  let v117 : BitVec 32 := Scalar.addi c163840_i32 v114
  let c0_i32_518 : BitVec 32 := 0#32
  ![v117.toNat, 0]

def k1_chk17 (v113 : BitVec 32) : Prop :=
  (∀ (r : Fin 2), ∀ a, (k1_off33 v113 (BitVec.ofNat 32 (32768 + 65536 * r.val))) a + S1x128.size a ≤ S262144x128.size a) ∧
  (∀ (r : Fin 2), ∀ a, (k1_off34 v113 (BitVec.ofNat 32 (163840 + 65536 * r.val))) a + S1x128.size a ≤ S262144x128.size a) ∧
  (∀ (r : Fin 2), ∀ a, (k1_off97 v113 (BitVec.ofNat 32 (32768 + 65536 * r.val))) a + S1x128.size a ≤ S262144x128.size a) ∧
  (∀ (r : Fin 2), ∀ a, (k1_off98 v113 (BitVec.ofNat 32 (163840 + 65536 * r.val))) a + S1x128.size a ≤ S262144x128.size a)
theorem k1_off33_inb : ∀ (v113 : BitVec 32) (k1_hw17 : k1_chk17 v113), ∀ (r : Fin 2), ∀ a, (k1_off33 v113 (BitVec.ofNat 32 (32768 + 65536 * r.val))) a + S1x128.size a ≤ S262144x128.size a := fun v113 k1_hw17 r => k1_hw17.1 r
theorem k1_off34_inb : ∀ (v113 : BitVec 32) (k1_hw17 : k1_chk17 v113), ∀ (r : Fin 2), ∀ a, (k1_off34 v113 (BitVec.ofNat 32 (163840 + 65536 * r.val))) a + S1x128.size a ≤ S262144x128.size a := fun v113 k1_hw17 r => k1_hw17.2.1 r
theorem k1_off97_inb : ∀ (v113 : BitVec 32) (k1_hw17 : k1_chk17 v113), ∀ (r : Fin 2), ∀ a, (k1_off97 v113 (BitVec.ofNat 32 (32768 + 65536 * r.val))) a + S1x128.size a ≤ S262144x128.size a := fun v113 k1_hw17 r => k1_hw17.2.2.1 r
theorem k1_off98_inb : ∀ (v113 : BitVec 32) (k1_hw17 : k1_chk17 v113), ∀ (r : Fin 2), ∀ a, (k1_off98 v113 (BitVec.ofNat 32 (163840 + 65536 * r.val))) a + S1x128.size a ≤ S262144x128.size a := fun v113 k1_hw17 r => k1_hw17.2.2.2 r

def k1_off99 (v120 : BitVec 32) (c34816_i32 : BitVec 32) : Fin 2 → Nat :=
  let v122 : BitVec 32 := Scalar.addi c34816_i32 v120
  let c0_i32_524 : BitVec 32 := 0#32
  ![v122.toNat, 0]
def k1_off100 (v120 : BitVec 32) (c165888_i32 : BitVec 32) : Fin 2 → Nat :=
  let c511_i32_30 : BitVec 32 := 511#32
  let v121 : BitVec 32 := Scalar.andi v120 c511_i32_30
  let v124 : BitVec 32 := Scalar.addi c165888_i32 v121
  let c0_i32_530 : BitVec 32 := 0#32
  ![v124.toNat, 0]

def k1_chk18 (v120 : BitVec 32) : Prop :=
  (∀ (r : Fin 2), ∀ a, (k1_off35 v120 (BitVec.ofNat 32 (34816 + 65536 * r.val))) a + S1x128.size a ≤ S262144x128.size a) ∧
  (∀ (r : Fin 2), ∀ a, (k1_off36 v120 (BitVec.ofNat 32 (165888 + 65536 * r.val))) a + S1x128.size a ≤ S262144x128.size a) ∧
  (∀ (r : Fin 2), ∀ a, (k1_off99 v120 (BitVec.ofNat 32 (34816 + 65536 * r.val))) a + S1x128.size a ≤ S262144x128.size a) ∧
  (∀ (r : Fin 2), ∀ a, (k1_off100 v120 (BitVec.ofNat 32 (165888 + 65536 * r.val))) a + S1x128.size a ≤ S262144x128.size a)
theorem k1_off35_inb : ∀ (v120 : BitVec 32) (k1_hw18 : k1_chk18 v120), ∀ (r : Fin 2), ∀ a, (k1_off35 v120 (BitVec.ofNat 32 (34816 + 65536 * r.val))) a + S1x128.size a ≤ S262144x128.size a := fun v120 k1_hw18 r => k1_hw18.1 r
theorem k1_off36_inb : ∀ (v120 : BitVec 32) (k1_hw18 : k1_chk18 v120), ∀ (r : Fin 2), ∀ a, (k1_off36 v120 (BitVec.ofNat 32 (165888 + 65536 * r.val))) a + S1x128.size a ≤ S262144x128.size a := fun v120 k1_hw18 r => k1_hw18.2.1 r
theorem k1_off99_inb : ∀ (v120 : BitVec 32) (k1_hw18 : k1_chk18 v120), ∀ (r : Fin 2), ∀ a, (k1_off99 v120 (BitVec.ofNat 32 (34816 + 65536 * r.val))) a + S1x128.size a ≤ S262144x128.size a := fun v120 k1_hw18 r => k1_hw18.2.2.1 r
theorem k1_off100_inb : ∀ (v120 : BitVec 32) (k1_hw18 : k1_chk18 v120), ∀ (r : Fin 2), ∀ a, (k1_off100 v120 (BitVec.ofNat 32 (165888 + 65536 * r.val))) a + S1x128.size a ≤ S262144x128.size a := fun v120 k1_hw18 r => k1_hw18.2.2.2 r

def k1_off101 (v127 : BitVec 32) (c36864_i32 : BitVec 32) : Fin 2 → Nat :=
  let v129 : BitVec 32 := Scalar.addi c36864_i32 v127
  let c0_i32_536 : BitVec 32 := 0#32
  ![v129.toNat, 0]
def k1_off102 (v127 : BitVec 32) (c167936_i32 : BitVec 32) : Fin 2 → Nat :=
  let c511_i32_32 : BitVec 32 := 511#32
  let v128 : BitVec 32 := Scalar.andi v127 c511_i32_32
  let v131 : BitVec 32 := Scalar.addi c167936_i32 v128
  let c0_i32_542 : BitVec 32 := 0#32
  ![v131.toNat, 0]

def k1_chk19 (v127 : BitVec 32) : Prop :=
  (∀ (r : Fin 2), ∀ a, (k1_off37 v127 (BitVec.ofNat 32 (36864 + 65536 * r.val))) a + S1x128.size a ≤ S262144x128.size a) ∧
  (∀ (r : Fin 2), ∀ a, (k1_off38 v127 (BitVec.ofNat 32 (167936 + 65536 * r.val))) a + S1x128.size a ≤ S262144x128.size a) ∧
  (∀ (r : Fin 2), ∀ a, (k1_off101 v127 (BitVec.ofNat 32 (36864 + 65536 * r.val))) a + S1x128.size a ≤ S262144x128.size a) ∧
  (∀ (r : Fin 2), ∀ a, (k1_off102 v127 (BitVec.ofNat 32 (167936 + 65536 * r.val))) a + S1x128.size a ≤ S262144x128.size a)
theorem k1_off37_inb : ∀ (v127 : BitVec 32) (k1_hw19 : k1_chk19 v127), ∀ (r : Fin 2), ∀ a, (k1_off37 v127 (BitVec.ofNat 32 (36864 + 65536 * r.val))) a + S1x128.size a ≤ S262144x128.size a := fun v127 k1_hw19 r => k1_hw19.1 r
theorem k1_off38_inb : ∀ (v127 : BitVec 32) (k1_hw19 : k1_chk19 v127), ∀ (r : Fin 2), ∀ a, (k1_off38 v127 (BitVec.ofNat 32 (167936 + 65536 * r.val))) a + S1x128.size a ≤ S262144x128.size a := fun v127 k1_hw19 r => k1_hw19.2.1 r
theorem k1_off101_inb : ∀ (v127 : BitVec 32) (k1_hw19 : k1_chk19 v127), ∀ (r : Fin 2), ∀ a, (k1_off101 v127 (BitVec.ofNat 32 (36864 + 65536 * r.val))) a + S1x128.size a ≤ S262144x128.size a := fun v127 k1_hw19 r => k1_hw19.2.2.1 r
theorem k1_off102_inb : ∀ (v127 : BitVec 32) (k1_hw19 : k1_chk19 v127), ∀ (r : Fin 2), ∀ a, (k1_off102 v127 (BitVec.ofNat 32 (167936 + 65536 * r.val))) a + S1x128.size a ≤ S262144x128.size a := fun v127 k1_hw19 r => k1_hw19.2.2.2 r

def k1_off103 (v134 : BitVec 32) (c38912_i32 : BitVec 32) : Fin 2 → Nat :=
  let v136 : BitVec 32 := Scalar.addi c38912_i32 v134
  let c0_i32_548 : BitVec 32 := 0#32
  ![v136.toNat, 0]
def k1_off104 (v134 : BitVec 32) (c169984_i32 : BitVec 32) : Fin 2 → Nat :=
  let c511_i32_34 : BitVec 32 := 511#32
  let v135 : BitVec 32 := Scalar.andi v134 c511_i32_34
  let v138 : BitVec 32 := Scalar.addi c169984_i32 v135
  let c0_i32_554 : BitVec 32 := 0#32
  ![v138.toNat, 0]

def k1_chk20 (v134 : BitVec 32) : Prop :=
  (∀ (r : Fin 2), ∀ a, (k1_off39 v134 (BitVec.ofNat 32 (38912 + 65536 * r.val))) a + S1x128.size a ≤ S262144x128.size a) ∧
  (∀ (r : Fin 2), ∀ a, (k1_off40 v134 (BitVec.ofNat 32 (169984 + 65536 * r.val))) a + S1x128.size a ≤ S262144x128.size a) ∧
  (∀ (r : Fin 2), ∀ a, (k1_off103 v134 (BitVec.ofNat 32 (38912 + 65536 * r.val))) a + S1x128.size a ≤ S262144x128.size a) ∧
  (∀ (r : Fin 2), ∀ a, (k1_off104 v134 (BitVec.ofNat 32 (169984 + 65536 * r.val))) a + S1x128.size a ≤ S262144x128.size a)
theorem k1_off39_inb : ∀ (v134 : BitVec 32) (k1_hw20 : k1_chk20 v134), ∀ (r : Fin 2), ∀ a, (k1_off39 v134 (BitVec.ofNat 32 (38912 + 65536 * r.val))) a + S1x128.size a ≤ S262144x128.size a := fun v134 k1_hw20 r => k1_hw20.1 r
theorem k1_off40_inb : ∀ (v134 : BitVec 32) (k1_hw20 : k1_chk20 v134), ∀ (r : Fin 2), ∀ a, (k1_off40 v134 (BitVec.ofNat 32 (169984 + 65536 * r.val))) a + S1x128.size a ≤ S262144x128.size a := fun v134 k1_hw20 r => k1_hw20.2.1 r
theorem k1_off103_inb : ∀ (v134 : BitVec 32) (k1_hw20 : k1_chk20 v134), ∀ (r : Fin 2), ∀ a, (k1_off103 v134 (BitVec.ofNat 32 (38912 + 65536 * r.val))) a + S1x128.size a ≤ S262144x128.size a := fun v134 k1_hw20 r => k1_hw20.2.2.1 r
theorem k1_off104_inb : ∀ (v134 : BitVec 32) (k1_hw20 : k1_chk20 v134), ∀ (r : Fin 2), ∀ a, (k1_off104 v134 (BitVec.ofNat 32 (169984 + 65536 * r.val))) a + S1x128.size a ≤ S262144x128.size a := fun v134 k1_hw20 r => k1_hw20.2.2.2 r

def k1_off105 (v141 : BitVec 32) (c40960_i32 : BitVec 32) : Fin 2 → Nat :=
  let v143 : BitVec 32 := Scalar.addi c40960_i32 v141
  let c0_i32_560 : BitVec 32 := 0#32
  ![v143.toNat, 0]
def k1_off106 (v141 : BitVec 32) (c172032_i32 : BitVec 32) : Fin 2 → Nat :=
  let c511_i32_35 : BitVec 32 := 511#32
  let v142 : BitVec 32 := Scalar.andi v141 c511_i32_35
  let v145 : BitVec 32 := Scalar.addi c172032_i32 v142
  let c0_i32_566 : BitVec 32 := 0#32
  ![v145.toNat, 0]

def k1_chk21 (v141 : BitVec 32) : Prop :=
  (∀ (r : Fin 2), ∀ a, (k1_off41 v141 (BitVec.ofNat 32 (40960 + 65536 * r.val))) a + S1x128.size a ≤ S262144x128.size a) ∧
  (∀ (r : Fin 2), ∀ a, (k1_off42 v141 (BitVec.ofNat 32 (172032 + 65536 * r.val))) a + S1x128.size a ≤ S262144x128.size a) ∧
  (∀ (r : Fin 2), ∀ a, (k1_off105 v141 (BitVec.ofNat 32 (40960 + 65536 * r.val))) a + S1x128.size a ≤ S262144x128.size a) ∧
  (∀ (r : Fin 2), ∀ a, (k1_off106 v141 (BitVec.ofNat 32 (172032 + 65536 * r.val))) a + S1x128.size a ≤ S262144x128.size a)
theorem k1_off41_inb : ∀ (v141 : BitVec 32) (k1_hw21 : k1_chk21 v141), ∀ (r : Fin 2), ∀ a, (k1_off41 v141 (BitVec.ofNat 32 (40960 + 65536 * r.val))) a + S1x128.size a ≤ S262144x128.size a := fun v141 k1_hw21 r => k1_hw21.1 r
theorem k1_off42_inb : ∀ (v141 : BitVec 32) (k1_hw21 : k1_chk21 v141), ∀ (r : Fin 2), ∀ a, (k1_off42 v141 (BitVec.ofNat 32 (172032 + 65536 * r.val))) a + S1x128.size a ≤ S262144x128.size a := fun v141 k1_hw21 r => k1_hw21.2.1 r
theorem k1_off105_inb : ∀ (v141 : BitVec 32) (k1_hw21 : k1_chk21 v141), ∀ (r : Fin 2), ∀ a, (k1_off105 v141 (BitVec.ofNat 32 (40960 + 65536 * r.val))) a + S1x128.size a ≤ S262144x128.size a := fun v141 k1_hw21 r => k1_hw21.2.2.1 r
theorem k1_off106_inb : ∀ (v141 : BitVec 32) (k1_hw21 : k1_chk21 v141), ∀ (r : Fin 2), ∀ a, (k1_off106 v141 (BitVec.ofNat 32 (172032 + 65536 * r.val))) a + S1x128.size a ≤ S262144x128.size a := fun v141 k1_hw21 r => k1_hw21.2.2.2 r

def k1_off107 (v148 : BitVec 32) (c43008_i32 : BitVec 32) : Fin 2 → Nat :=
  let v150 : BitVec 32 := Scalar.addi c43008_i32 v148
  let c0_i32_572 : BitVec 32 := 0#32
  ![v150.toNat, 0]
def k1_off108 (v148 : BitVec 32) (c174080_i32 : BitVec 32) : Fin 2 → Nat :=
  let c511_i32_37 : BitVec 32 := 511#32
  let v149 : BitVec 32 := Scalar.andi v148 c511_i32_37
  let v152 : BitVec 32 := Scalar.addi c174080_i32 v149
  let c0_i32_578 : BitVec 32 := 0#32
  ![v152.toNat, 0]

def k1_chk22 (v148 : BitVec 32) : Prop :=
  (∀ (r : Fin 2), ∀ a, (k1_off43 v148 (BitVec.ofNat 32 (43008 + 65536 * r.val))) a + S1x128.size a ≤ S262144x128.size a) ∧
  (∀ (r : Fin 2), ∀ a, (k1_off44 v148 (BitVec.ofNat 32 (174080 + 65536 * r.val))) a + S1x128.size a ≤ S262144x128.size a) ∧
  (∀ (r : Fin 2), ∀ a, (k1_off107 v148 (BitVec.ofNat 32 (43008 + 65536 * r.val))) a + S1x128.size a ≤ S262144x128.size a) ∧
  (∀ (r : Fin 2), ∀ a, (k1_off108 v148 (BitVec.ofNat 32 (174080 + 65536 * r.val))) a + S1x128.size a ≤ S262144x128.size a)
theorem k1_off43_inb : ∀ (v148 : BitVec 32) (k1_hw22 : k1_chk22 v148), ∀ (r : Fin 2), ∀ a, (k1_off43 v148 (BitVec.ofNat 32 (43008 + 65536 * r.val))) a + S1x128.size a ≤ S262144x128.size a := fun v148 k1_hw22 r => k1_hw22.1 r
theorem k1_off44_inb : ∀ (v148 : BitVec 32) (k1_hw22 : k1_chk22 v148), ∀ (r : Fin 2), ∀ a, (k1_off44 v148 (BitVec.ofNat 32 (174080 + 65536 * r.val))) a + S1x128.size a ≤ S262144x128.size a := fun v148 k1_hw22 r => k1_hw22.2.1 r
theorem k1_off107_inb : ∀ (v148 : BitVec 32) (k1_hw22 : k1_chk22 v148), ∀ (r : Fin 2), ∀ a, (k1_off107 v148 (BitVec.ofNat 32 (43008 + 65536 * r.val))) a + S1x128.size a ≤ S262144x128.size a := fun v148 k1_hw22 r => k1_hw22.2.2.1 r
theorem k1_off108_inb : ∀ (v148 : BitVec 32) (k1_hw22 : k1_chk22 v148), ∀ (r : Fin 2), ∀ a, (k1_off108 v148 (BitVec.ofNat 32 (174080 + 65536 * r.val))) a + S1x128.size a ≤ S262144x128.size a := fun v148 k1_hw22 r => k1_hw22.2.2.2 r

def k1_off109 (v155 : BitVec 32) (c45056_i32 : BitVec 32) : Fin 2 → Nat :=
  let v157 : BitVec 32 := Scalar.addi c45056_i32 v155
  let c0_i32_584 : BitVec 32 := 0#32
  ![v157.toNat, 0]
def k1_off110 (v155 : BitVec 32) (c176128_i32 : BitVec 32) : Fin 2 → Nat :=
  let c511_i32_39 : BitVec 32 := 511#32
  let v156 : BitVec 32 := Scalar.andi v155 c511_i32_39
  let v159 : BitVec 32 := Scalar.addi c176128_i32 v156
  let c0_i32_590 : BitVec 32 := 0#32
  ![v159.toNat, 0]

def k1_chk23 (v155 : BitVec 32) : Prop :=
  (∀ (r : Fin 2), ∀ a, (k1_off45 v155 (BitVec.ofNat 32 (45056 + 65536 * r.val))) a + S1x128.size a ≤ S262144x128.size a) ∧
  (∀ (r : Fin 2), ∀ a, (k1_off46 v155 (BitVec.ofNat 32 (176128 + 65536 * r.val))) a + S1x128.size a ≤ S262144x128.size a) ∧
  (∀ (r : Fin 2), ∀ a, (k1_off109 v155 (BitVec.ofNat 32 (45056 + 65536 * r.val))) a + S1x128.size a ≤ S262144x128.size a) ∧
  (∀ (r : Fin 2), ∀ a, (k1_off110 v155 (BitVec.ofNat 32 (176128 + 65536 * r.val))) a + S1x128.size a ≤ S262144x128.size a)
theorem k1_off45_inb : ∀ (v155 : BitVec 32) (k1_hw23 : k1_chk23 v155), ∀ (r : Fin 2), ∀ a, (k1_off45 v155 (BitVec.ofNat 32 (45056 + 65536 * r.val))) a + S1x128.size a ≤ S262144x128.size a := fun v155 k1_hw23 r => k1_hw23.1 r
theorem k1_off46_inb : ∀ (v155 : BitVec 32) (k1_hw23 : k1_chk23 v155), ∀ (r : Fin 2), ∀ a, (k1_off46 v155 (BitVec.ofNat 32 (176128 + 65536 * r.val))) a + S1x128.size a ≤ S262144x128.size a := fun v155 k1_hw23 r => k1_hw23.2.1 r
theorem k1_off109_inb : ∀ (v155 : BitVec 32) (k1_hw23 : k1_chk23 v155), ∀ (r : Fin 2), ∀ a, (k1_off109 v155 (BitVec.ofNat 32 (45056 + 65536 * r.val))) a + S1x128.size a ≤ S262144x128.size a := fun v155 k1_hw23 r => k1_hw23.2.2.1 r
theorem k1_off110_inb : ∀ (v155 : BitVec 32) (k1_hw23 : k1_chk23 v155), ∀ (r : Fin 2), ∀ a, (k1_off110 v155 (BitVec.ofNat 32 (176128 + 65536 * r.val))) a + S1x128.size a ≤ S262144x128.size a := fun v155 k1_hw23 r => k1_hw23.2.2.2 r

def k1_off111 (v162 : BitVec 32) (c47104_i32 : BitVec 32) : Fin 2 → Nat :=
  let v164 : BitVec 32 := Scalar.addi c47104_i32 v162
  let c0_i32_596 : BitVec 32 := 0#32
  ![v164.toNat, 0]
def k1_off112 (v162 : BitVec 32) (c178176_i32 : BitVec 32) : Fin 2 → Nat :=
  let c511_i32_41 : BitVec 32 := 511#32
  let v163 : BitVec 32 := Scalar.andi v162 c511_i32_41
  let v166 : BitVec 32 := Scalar.addi c178176_i32 v163
  let c0_i32_602 : BitVec 32 := 0#32
  ![v166.toNat, 0]

def k1_chk24 (v162 : BitVec 32) : Prop :=
  (∀ (r : Fin 2), ∀ a, (k1_off47 v162 (BitVec.ofNat 32 (47104 + 65536 * r.val))) a + S1x128.size a ≤ S262144x128.size a) ∧
  (∀ (r : Fin 2), ∀ a, (k1_off48 v162 (BitVec.ofNat 32 (178176 + 65536 * r.val))) a + S1x128.size a ≤ S262144x128.size a) ∧
  (∀ (r : Fin 2), ∀ a, (k1_off111 v162 (BitVec.ofNat 32 (47104 + 65536 * r.val))) a + S1x128.size a ≤ S262144x128.size a) ∧
  (∀ (r : Fin 2), ∀ a, (k1_off112 v162 (BitVec.ofNat 32 (178176 + 65536 * r.val))) a + S1x128.size a ≤ S262144x128.size a)
theorem k1_off47_inb : ∀ (v162 : BitVec 32) (k1_hw24 : k1_chk24 v162), ∀ (r : Fin 2), ∀ a, (k1_off47 v162 (BitVec.ofNat 32 (47104 + 65536 * r.val))) a + S1x128.size a ≤ S262144x128.size a := fun v162 k1_hw24 r => k1_hw24.1 r
theorem k1_off48_inb : ∀ (v162 : BitVec 32) (k1_hw24 : k1_chk24 v162), ∀ (r : Fin 2), ∀ a, (k1_off48 v162 (BitVec.ofNat 32 (178176 + 65536 * r.val))) a + S1x128.size a ≤ S262144x128.size a := fun v162 k1_hw24 r => k1_hw24.2.1 r
theorem k1_off111_inb : ∀ (v162 : BitVec 32) (k1_hw24 : k1_chk24 v162), ∀ (r : Fin 2), ∀ a, (k1_off111 v162 (BitVec.ofNat 32 (47104 + 65536 * r.val))) a + S1x128.size a ≤ S262144x128.size a := fun v162 k1_hw24 r => k1_hw24.2.2.1 r
theorem k1_off112_inb : ∀ (v162 : BitVec 32) (k1_hw24 : k1_chk24 v162), ∀ (r : Fin 2), ∀ a, (k1_off112 v162 (BitVec.ofNat 32 (178176 + 65536 * r.val))) a + S1x128.size a ≤ S262144x128.size a := fun v162 k1_hw24 r => k1_hw24.2.2.2 r

def k1_off113 (v169 : BitVec 32) (c49152_i32 : BitVec 32) : Fin 2 → Nat :=
  let v171 : BitVec 32 := Scalar.addi c49152_i32 v169
  let c0_i32_608 : BitVec 32 := 0#32
  ![v171.toNat, 0]
def k1_off114 (v169 : BitVec 32) (c180224_i32 : BitVec 32) : Fin 2 → Nat :=
  let c511_i32_42 : BitVec 32 := 511#32
  let v170 : BitVec 32 := Scalar.andi v169 c511_i32_42
  let v173 : BitVec 32 := Scalar.addi c180224_i32 v170
  let c0_i32_614 : BitVec 32 := 0#32
  ![v173.toNat, 0]

def k1_chk25 (v169 : BitVec 32) : Prop :=
  (∀ (r : Fin 2), ∀ a, (k1_off49 v169 (BitVec.ofNat 32 (49152 + 65536 * r.val))) a + S1x128.size a ≤ S262144x128.size a) ∧
  (∀ (r : Fin 2), ∀ a, (k1_off50 v169 (BitVec.ofNat 32 (180224 + 65536 * r.val))) a + S1x128.size a ≤ S262144x128.size a) ∧
  (∀ (r : Fin 2), ∀ a, (k1_off113 v169 (BitVec.ofNat 32 (49152 + 65536 * r.val))) a + S1x128.size a ≤ S262144x128.size a) ∧
  (∀ (r : Fin 2), ∀ a, (k1_off114 v169 (BitVec.ofNat 32 (180224 + 65536 * r.val))) a + S1x128.size a ≤ S262144x128.size a)
theorem k1_off49_inb : ∀ (v169 : BitVec 32) (k1_hw25 : k1_chk25 v169), ∀ (r : Fin 2), ∀ a, (k1_off49 v169 (BitVec.ofNat 32 (49152 + 65536 * r.val))) a + S1x128.size a ≤ S262144x128.size a := fun v169 k1_hw25 r => k1_hw25.1 r
theorem k1_off50_inb : ∀ (v169 : BitVec 32) (k1_hw25 : k1_chk25 v169), ∀ (r : Fin 2), ∀ a, (k1_off50 v169 (BitVec.ofNat 32 (180224 + 65536 * r.val))) a + S1x128.size a ≤ S262144x128.size a := fun v169 k1_hw25 r => k1_hw25.2.1 r
theorem k1_off113_inb : ∀ (v169 : BitVec 32) (k1_hw25 : k1_chk25 v169), ∀ (r : Fin 2), ∀ a, (k1_off113 v169 (BitVec.ofNat 32 (49152 + 65536 * r.val))) a + S1x128.size a ≤ S262144x128.size a := fun v169 k1_hw25 r => k1_hw25.2.2.1 r
theorem k1_off114_inb : ∀ (v169 : BitVec 32) (k1_hw25 : k1_chk25 v169), ∀ (r : Fin 2), ∀ a, (k1_off114 v169 (BitVec.ofNat 32 (180224 + 65536 * r.val))) a + S1x128.size a ≤ S262144x128.size a := fun v169 k1_hw25 r => k1_hw25.2.2.2 r

def k1_off115 (v176 : BitVec 32) (c51200_i32 : BitVec 32) : Fin 2 → Nat :=
  let v178 : BitVec 32 := Scalar.addi c51200_i32 v176
  let c0_i32_620 : BitVec 32 := 0#32
  ![v178.toNat, 0]
def k1_off116 (v176 : BitVec 32) (c182272_i32 : BitVec 32) : Fin 2 → Nat :=
  let c511_i32_44 : BitVec 32 := 511#32
  let v177 : BitVec 32 := Scalar.andi v176 c511_i32_44
  let v180 : BitVec 32 := Scalar.addi c182272_i32 v177
  let c0_i32_626 : BitVec 32 := 0#32
  ![v180.toNat, 0]

def k1_chk26 (v176 : BitVec 32) : Prop :=
  (∀ (r : Fin 2), ∀ a, (k1_off51 v176 (BitVec.ofNat 32 (51200 + 65536 * r.val))) a + S1x128.size a ≤ S262144x128.size a) ∧
  (∀ (r : Fin 2), ∀ a, (k1_off52 v176 (BitVec.ofNat 32 (182272 + 65536 * r.val))) a + S1x128.size a ≤ S262144x128.size a) ∧
  (∀ (r : Fin 2), ∀ a, (k1_off115 v176 (BitVec.ofNat 32 (51200 + 65536 * r.val))) a + S1x128.size a ≤ S262144x128.size a) ∧
  (∀ (r : Fin 2), ∀ a, (k1_off116 v176 (BitVec.ofNat 32 (182272 + 65536 * r.val))) a + S1x128.size a ≤ S262144x128.size a)
theorem k1_off51_inb : ∀ (v176 : BitVec 32) (k1_hw26 : k1_chk26 v176), ∀ (r : Fin 2), ∀ a, (k1_off51 v176 (BitVec.ofNat 32 (51200 + 65536 * r.val))) a + S1x128.size a ≤ S262144x128.size a := fun v176 k1_hw26 r => k1_hw26.1 r
theorem k1_off52_inb : ∀ (v176 : BitVec 32) (k1_hw26 : k1_chk26 v176), ∀ (r : Fin 2), ∀ a, (k1_off52 v176 (BitVec.ofNat 32 (182272 + 65536 * r.val))) a + S1x128.size a ≤ S262144x128.size a := fun v176 k1_hw26 r => k1_hw26.2.1 r
theorem k1_off115_inb : ∀ (v176 : BitVec 32) (k1_hw26 : k1_chk26 v176), ∀ (r : Fin 2), ∀ a, (k1_off115 v176 (BitVec.ofNat 32 (51200 + 65536 * r.val))) a + S1x128.size a ≤ S262144x128.size a := fun v176 k1_hw26 r => k1_hw26.2.2.1 r
theorem k1_off116_inb : ∀ (v176 : BitVec 32) (k1_hw26 : k1_chk26 v176), ∀ (r : Fin 2), ∀ a, (k1_off116 v176 (BitVec.ofNat 32 (182272 + 65536 * r.val))) a + S1x128.size a ≤ S262144x128.size a := fun v176 k1_hw26 r => k1_hw26.2.2.2 r

def k1_off117 (v183 : BitVec 32) (c53248_i32 : BitVec 32) : Fin 2 → Nat :=
  let v185 : BitVec 32 := Scalar.addi c53248_i32 v183
  let c0_i32_632 : BitVec 32 := 0#32
  ![v185.toNat, 0]
def k1_off118 (v183 : BitVec 32) (c184320_i32 : BitVec 32) : Fin 2 → Nat :=
  let c511_i32_46 : BitVec 32 := 511#32
  let v184 : BitVec 32 := Scalar.andi v183 c511_i32_46
  let v187 : BitVec 32 := Scalar.addi c184320_i32 v184
  let c0_i32_638 : BitVec 32 := 0#32
  ![v187.toNat, 0]

def k1_chk27 (v183 : BitVec 32) : Prop :=
  (∀ (r : Fin 2), ∀ a, (k1_off53 v183 (BitVec.ofNat 32 (53248 + 65536 * r.val))) a + S1x128.size a ≤ S262144x128.size a) ∧
  (∀ (r : Fin 2), ∀ a, (k1_off54 v183 (BitVec.ofNat 32 (184320 + 65536 * r.val))) a + S1x128.size a ≤ S262144x128.size a) ∧
  (∀ (r : Fin 2), ∀ a, (k1_off117 v183 (BitVec.ofNat 32 (53248 + 65536 * r.val))) a + S1x128.size a ≤ S262144x128.size a) ∧
  (∀ (r : Fin 2), ∀ a, (k1_off118 v183 (BitVec.ofNat 32 (184320 + 65536 * r.val))) a + S1x128.size a ≤ S262144x128.size a)
theorem k1_off53_inb : ∀ (v183 : BitVec 32) (k1_hw27 : k1_chk27 v183), ∀ (r : Fin 2), ∀ a, (k1_off53 v183 (BitVec.ofNat 32 (53248 + 65536 * r.val))) a + S1x128.size a ≤ S262144x128.size a := fun v183 k1_hw27 r => k1_hw27.1 r
theorem k1_off54_inb : ∀ (v183 : BitVec 32) (k1_hw27 : k1_chk27 v183), ∀ (r : Fin 2), ∀ a, (k1_off54 v183 (BitVec.ofNat 32 (184320 + 65536 * r.val))) a + S1x128.size a ≤ S262144x128.size a := fun v183 k1_hw27 r => k1_hw27.2.1 r
theorem k1_off117_inb : ∀ (v183 : BitVec 32) (k1_hw27 : k1_chk27 v183), ∀ (r : Fin 2), ∀ a, (k1_off117 v183 (BitVec.ofNat 32 (53248 + 65536 * r.val))) a + S1x128.size a ≤ S262144x128.size a := fun v183 k1_hw27 r => k1_hw27.2.2.1 r
theorem k1_off118_inb : ∀ (v183 : BitVec 32) (k1_hw27 : k1_chk27 v183), ∀ (r : Fin 2), ∀ a, (k1_off118 v183 (BitVec.ofNat 32 (184320 + 65536 * r.val))) a + S1x128.size a ≤ S262144x128.size a := fun v183 k1_hw27 r => k1_hw27.2.2.2 r

def k1_off119 (v190 : BitVec 32) (c55296_i32 : BitVec 32) : Fin 2 → Nat :=
  let v192 : BitVec 32 := Scalar.addi c55296_i32 v190
  let c0_i32_644 : BitVec 32 := 0#32
  ![v192.toNat, 0]
def k1_off120 (v190 : BitVec 32) (c186368_i32 : BitVec 32) : Fin 2 → Nat :=
  let c511_i32_48 : BitVec 32 := 511#32
  let v191 : BitVec 32 := Scalar.andi v190 c511_i32_48
  let v194 : BitVec 32 := Scalar.addi c186368_i32 v191
  let c0_i32_650 : BitVec 32 := 0#32
  ![v194.toNat, 0]

def k1_chk28 (v190 : BitVec 32) : Prop :=
  (∀ (r : Fin 2), ∀ a, (k1_off55 v190 (BitVec.ofNat 32 (55296 + 65536 * r.val))) a + S1x128.size a ≤ S262144x128.size a) ∧
  (∀ (r : Fin 2), ∀ a, (k1_off56 v190 (BitVec.ofNat 32 (186368 + 65536 * r.val))) a + S1x128.size a ≤ S262144x128.size a) ∧
  (∀ (r : Fin 2), ∀ a, (k1_off119 v190 (BitVec.ofNat 32 (55296 + 65536 * r.val))) a + S1x128.size a ≤ S262144x128.size a) ∧
  (∀ (r : Fin 2), ∀ a, (k1_off120 v190 (BitVec.ofNat 32 (186368 + 65536 * r.val))) a + S1x128.size a ≤ S262144x128.size a)
theorem k1_off55_inb : ∀ (v190 : BitVec 32) (k1_hw28 : k1_chk28 v190), ∀ (r : Fin 2), ∀ a, (k1_off55 v190 (BitVec.ofNat 32 (55296 + 65536 * r.val))) a + S1x128.size a ≤ S262144x128.size a := fun v190 k1_hw28 r => k1_hw28.1 r
theorem k1_off56_inb : ∀ (v190 : BitVec 32) (k1_hw28 : k1_chk28 v190), ∀ (r : Fin 2), ∀ a, (k1_off56 v190 (BitVec.ofNat 32 (186368 + 65536 * r.val))) a + S1x128.size a ≤ S262144x128.size a := fun v190 k1_hw28 r => k1_hw28.2.1 r
theorem k1_off119_inb : ∀ (v190 : BitVec 32) (k1_hw28 : k1_chk28 v190), ∀ (r : Fin 2), ∀ a, (k1_off119 v190 (BitVec.ofNat 32 (55296 + 65536 * r.val))) a + S1x128.size a ≤ S262144x128.size a := fun v190 k1_hw28 r => k1_hw28.2.2.1 r
theorem k1_off120_inb : ∀ (v190 : BitVec 32) (k1_hw28 : k1_chk28 v190), ∀ (r : Fin 2), ∀ a, (k1_off120 v190 (BitVec.ofNat 32 (186368 + 65536 * r.val))) a + S1x128.size a ≤ S262144x128.size a := fun v190 k1_hw28 r => k1_hw28.2.2.2 r

def k1_off121 (v197 : BitVec 32) (c57344_i32 : BitVec 32) : Fin 2 → Nat :=
  let v199 : BitVec 32 := Scalar.addi c57344_i32 v197
  let c0_i32_656 : BitVec 32 := 0#32
  ![v199.toNat, 0]
def k1_off122 (v197 : BitVec 32) (c188416_i32 : BitVec 32) : Fin 2 → Nat :=
  let c511_i32_49 : BitVec 32 := 511#32
  let v198 : BitVec 32 := Scalar.andi v197 c511_i32_49
  let v201 : BitVec 32 := Scalar.addi c188416_i32 v198
  let c0_i32_662 : BitVec 32 := 0#32
  ![v201.toNat, 0]

def k1_chk29 (v197 : BitVec 32) : Prop :=
  (∀ (r : Fin 2), ∀ a, (k1_off57 v197 (BitVec.ofNat 32 (57344 + 65536 * r.val))) a + S1x128.size a ≤ S262144x128.size a) ∧
  (∀ (r : Fin 2), ∀ a, (k1_off58 v197 (BitVec.ofNat 32 (188416 + 65536 * r.val))) a + S1x128.size a ≤ S262144x128.size a) ∧
  (∀ (r : Fin 2), ∀ a, (k1_off121 v197 (BitVec.ofNat 32 (57344 + 65536 * r.val))) a + S1x128.size a ≤ S262144x128.size a) ∧
  (∀ (r : Fin 2), ∀ a, (k1_off122 v197 (BitVec.ofNat 32 (188416 + 65536 * r.val))) a + S1x128.size a ≤ S262144x128.size a)
theorem k1_off57_inb : ∀ (v197 : BitVec 32) (k1_hw29 : k1_chk29 v197), ∀ (r : Fin 2), ∀ a, (k1_off57 v197 (BitVec.ofNat 32 (57344 + 65536 * r.val))) a + S1x128.size a ≤ S262144x128.size a := fun v197 k1_hw29 r => k1_hw29.1 r
theorem k1_off58_inb : ∀ (v197 : BitVec 32) (k1_hw29 : k1_chk29 v197), ∀ (r : Fin 2), ∀ a, (k1_off58 v197 (BitVec.ofNat 32 (188416 + 65536 * r.val))) a + S1x128.size a ≤ S262144x128.size a := fun v197 k1_hw29 r => k1_hw29.2.1 r
theorem k1_off121_inb : ∀ (v197 : BitVec 32) (k1_hw29 : k1_chk29 v197), ∀ (r : Fin 2), ∀ a, (k1_off121 v197 (BitVec.ofNat 32 (57344 + 65536 * r.val))) a + S1x128.size a ≤ S262144x128.size a := fun v197 k1_hw29 r => k1_hw29.2.2.1 r
theorem k1_off122_inb : ∀ (v197 : BitVec 32) (k1_hw29 : k1_chk29 v197), ∀ (r : Fin 2), ∀ a, (k1_off122 v197 (BitVec.ofNat 32 (188416 + 65536 * r.val))) a + S1x128.size a ≤ S262144x128.size a := fun v197 k1_hw29 r => k1_hw29.2.2.2 r

def k1_off123 (v204 : BitVec 32) (c59392_i32 : BitVec 32) : Fin 2 → Nat :=
  let v206 : BitVec 32 := Scalar.addi c59392_i32 v204
  let c0_i32_668 : BitVec 32 := 0#32
  ![v206.toNat, 0]
def k1_off124 (v204 : BitVec 32) (c190464_i32 : BitVec 32) : Fin 2 → Nat :=
  let c511_i32_51 : BitVec 32 := 511#32
  let v205 : BitVec 32 := Scalar.andi v204 c511_i32_51
  let v208 : BitVec 32 := Scalar.addi c190464_i32 v205
  let c0_i32_674 : BitVec 32 := 0#32
  ![v208.toNat, 0]

def k1_chk30 (v204 : BitVec 32) : Prop :=
  (∀ (r : Fin 2), ∀ a, (k1_off59 v204 (BitVec.ofNat 32 (59392 + 65536 * r.val))) a + S1x128.size a ≤ S262144x128.size a) ∧
  (∀ (r : Fin 2), ∀ a, (k1_off60 v204 (BitVec.ofNat 32 (190464 + 65536 * r.val))) a + S1x128.size a ≤ S262144x128.size a) ∧
  (∀ (r : Fin 2), ∀ a, (k1_off123 v204 (BitVec.ofNat 32 (59392 + 65536 * r.val))) a + S1x128.size a ≤ S262144x128.size a) ∧
  (∀ (r : Fin 2), ∀ a, (k1_off124 v204 (BitVec.ofNat 32 (190464 + 65536 * r.val))) a + S1x128.size a ≤ S262144x128.size a)
theorem k1_off59_inb : ∀ (v204 : BitVec 32) (k1_hw30 : k1_chk30 v204), ∀ (r : Fin 2), ∀ a, (k1_off59 v204 (BitVec.ofNat 32 (59392 + 65536 * r.val))) a + S1x128.size a ≤ S262144x128.size a := fun v204 k1_hw30 r => k1_hw30.1 r
theorem k1_off60_inb : ∀ (v204 : BitVec 32) (k1_hw30 : k1_chk30 v204), ∀ (r : Fin 2), ∀ a, (k1_off60 v204 (BitVec.ofNat 32 (190464 + 65536 * r.val))) a + S1x128.size a ≤ S262144x128.size a := fun v204 k1_hw30 r => k1_hw30.2.1 r
theorem k1_off123_inb : ∀ (v204 : BitVec 32) (k1_hw30 : k1_chk30 v204), ∀ (r : Fin 2), ∀ a, (k1_off123 v204 (BitVec.ofNat 32 (59392 + 65536 * r.val))) a + S1x128.size a ≤ S262144x128.size a := fun v204 k1_hw30 r => k1_hw30.2.2.1 r
theorem k1_off124_inb : ∀ (v204 : BitVec 32) (k1_hw30 : k1_chk30 v204), ∀ (r : Fin 2), ∀ a, (k1_off124 v204 (BitVec.ofNat 32 (190464 + 65536 * r.val))) a + S1x128.size a ≤ S262144x128.size a := fun v204 k1_hw30 r => k1_hw30.2.2.2 r

def k1_off125 (v211 : BitVec 32) (c61440_i32 : BitVec 32) : Fin 2 → Nat :=
  let v213 : BitVec 32 := Scalar.addi c61440_i32 v211
  let c0_i32_680 : BitVec 32 := 0#32
  ![v213.toNat, 0]
def k1_off126 (v211 : BitVec 32) (c192512_i32 : BitVec 32) : Fin 2 → Nat :=
  let c511_i32_53 : BitVec 32 := 511#32
  let v212 : BitVec 32 := Scalar.andi v211 c511_i32_53
  let v215 : BitVec 32 := Scalar.addi c192512_i32 v212
  let c0_i32_686 : BitVec 32 := 0#32
  ![v215.toNat, 0]

def k1_chk31 (v211 : BitVec 32) : Prop :=
  (∀ (r : Fin 2), ∀ a, (k1_off61 v211 (BitVec.ofNat 32 (61440 + 65536 * r.val))) a + S1x128.size a ≤ S262144x128.size a) ∧
  (∀ (r : Fin 2), ∀ a, (k1_off62 v211 (BitVec.ofNat 32 (192512 + 65536 * r.val))) a + S1x128.size a ≤ S262144x128.size a) ∧
  (∀ (r : Fin 2), ∀ a, (k1_off125 v211 (BitVec.ofNat 32 (61440 + 65536 * r.val))) a + S1x128.size a ≤ S262144x128.size a) ∧
  (∀ (r : Fin 2), ∀ a, (k1_off126 v211 (BitVec.ofNat 32 (192512 + 65536 * r.val))) a + S1x128.size a ≤ S262144x128.size a)
theorem k1_off61_inb : ∀ (v211 : BitVec 32) (k1_hw31 : k1_chk31 v211), ∀ (r : Fin 2), ∀ a, (k1_off61 v211 (BitVec.ofNat 32 (61440 + 65536 * r.val))) a + S1x128.size a ≤ S262144x128.size a := fun v211 k1_hw31 r => k1_hw31.1 r
theorem k1_off62_inb : ∀ (v211 : BitVec 32) (k1_hw31 : k1_chk31 v211), ∀ (r : Fin 2), ∀ a, (k1_off62 v211 (BitVec.ofNat 32 (192512 + 65536 * r.val))) a + S1x128.size a ≤ S262144x128.size a := fun v211 k1_hw31 r => k1_hw31.2.1 r
theorem k1_off125_inb : ∀ (v211 : BitVec 32) (k1_hw31 : k1_chk31 v211), ∀ (r : Fin 2), ∀ a, (k1_off125 v211 (BitVec.ofNat 32 (61440 + 65536 * r.val))) a + S1x128.size a ≤ S262144x128.size a := fun v211 k1_hw31 r => k1_hw31.2.2.1 r
theorem k1_off126_inb : ∀ (v211 : BitVec 32) (k1_hw31 : k1_chk31 v211), ∀ (r : Fin 2), ∀ a, (k1_off126 v211 (BitVec.ofNat 32 (192512 + 65536 * r.val))) a + S1x128.size a ≤ S262144x128.size a := fun v211 k1_hw31 r => k1_hw31.2.2.2 r

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S8x4x2048x128 : Shape := ⟨4, ![8, 4, 2048, 128]⟩
abbrev S8x4x1x128 : Shape := ⟨4, ![8, 4, 1, 128]⟩
abbrev S8x1 : Shape := ⟨2, ![8, 1]⟩
abbrev S8 : Shape := ⟨1, ![8]⟩
abbrev S8x1x4x128 : Shape := ⟨4, ![8, 1, 4, 128]⟩
abbrev S_ : Shape := ⟨0, ![]⟩
abbrev S8x1x1 : Shape := ⟨3, ![8, 1, 1]⟩
abbrev S8x1x2 : Shape := ⟨3, ![8, 1, 2]⟩
abbrev S1x8x4x2048x128 : Shape := ⟨5, ![1, 8, 4, 2048, 128]⟩
abbrev S4x8x4x2048x128 : Shape := ⟨5, ![4, 8, 4, 2048, 128]⟩

abbrev nBuf : Space → Nat
  | .hbm => 120
  | .vmem => 0
  | .smem => 0
  | _ => 0

abbrev bufTy : (tb : Table) → Fin (tcTables nBuf tb) → BufTy
  | .hbm, ⟨0, _⟩ => ⟨S8x4x2048x128, .f32⟩
  | .hbm, ⟨1, _⟩ => ⟨S8x4x2048x128, .f32⟩
  | .hbm, ⟨2, _⟩ => ⟨S8x4x2048x128, .f32⟩
  | .hbm, ⟨3, _⟩ => ⟨S8x4x2048x128, .f32⟩
  | .hbm, ⟨4, _⟩ => ⟨S8x4x1x128, .f32⟩
  | .hbm, ⟨5, _⟩ => ⟨S8x4x1x128, .f32⟩
  | .hbm, ⟨6, _⟩ => ⟨S8x4x1x128, .f32⟩
  | .hbm, ⟨7, _⟩ => ⟨S8x4x1x128, .f32⟩
  | .hbm, ⟨8, _⟩ => ⟨S8x1, .i32⟩
  | .hbm, ⟨9, _⟩ => ⟨S8, .i32⟩
  | .hbm, ⟨10, _⟩ => ⟨S8x1, .i32⟩
  | .hbm, ⟨11, _⟩ => ⟨S8x1x4x128, .f32⟩
  | .hbm, ⟨12, _⟩ => ⟨S_, .i32⟩
  | .hbm, ⟨13, _⟩ => ⟨S8x1, .i32⟩
  | .hbm, ⟨14, _⟩ => ⟨S8x1, .i1⟩
  | .hbm, ⟨15, _⟩ => ⟨S_, .i32⟩
  | .hbm, ⟨16, _⟩ => ⟨S8x1, .i32⟩
  | .hbm, ⟨17, _⟩ => ⟨S8x1, .i32⟩
  | .hbm, ⟨18, _⟩ => ⟨S8x1, .i32⟩
  | .hbm, ⟨19, _⟩ => ⟨S_, .i32⟩
  | .hbm, ⟨20, _⟩ => ⟨S8x1, .i32⟩
  | .hbm, ⟨21, _⟩ => ⟨S8x1, .i1⟩
  | .hbm, ⟨22, _⟩ => ⟨S_, .i32⟩
  | .hbm, ⟨23, _⟩ => ⟨S8x1, .i32⟩
  | .hbm, ⟨24, _⟩ => ⟨S8x1, .i32⟩
  | .hbm, ⟨25, _⟩ => ⟨S8x1, .i32⟩
  | .hbm, ⟨26, _⟩ => ⟨S8x1x1, .i32⟩
  | .hbm, ⟨27, _⟩ => ⟨S8x1x1, .i32⟩
  | .hbm, ⟨28, _⟩ => ⟨S8x1x2, .i32⟩
  | .hbm, ⟨29, _⟩ => ⟨S8x4x2048x128, .f32⟩
  | .hbm, ⟨30, _⟩ => ⟨S8, .i32⟩
  | .hbm, ⟨31, _⟩ => ⟨S8x1, .i32⟩
  | .hbm, ⟨32, _⟩ => ⟨S8x1x4x128, .f32⟩
  | .hbm, ⟨33, _⟩ => ⟨S_, .i32⟩
  | .hbm, ⟨34, _⟩ => ⟨S8x1, .i32⟩
  | .hbm, ⟨35, _⟩ => ⟨S8x1, .i1⟩
  | .hbm, ⟨36, _⟩ => ⟨S_, .i32⟩
  | .hbm, ⟨37, _⟩ => ⟨S8x1, .i32⟩
  | .hbm, ⟨38, _⟩ => ⟨S8x1, .i32⟩
  | .hbm, ⟨39, _⟩ => ⟨S8x1, .i32⟩
  | .hbm, ⟨40, _⟩ => ⟨S_, .i32⟩
  | .hbm, ⟨41, _⟩ => ⟨S8x1, .i32⟩
  | .hbm, ⟨42, _⟩ => ⟨S8x1, .i1⟩
  | .hbm, ⟨43, _⟩ => ⟨S_, .i32⟩
  | .hbm, ⟨44, _⟩ => ⟨S8x1, .i32⟩
  | .hbm, ⟨45, _⟩ => ⟨S8x1, .i32⟩
  | .hbm, ⟨46, _⟩ => ⟨S8x1, .i32⟩
  | .hbm, ⟨47, _⟩ => ⟨S8x1x1, .i32⟩
  | .hbm, ⟨48, _⟩ => ⟨S8x1x1, .i32⟩
  | .hbm, ⟨49, _⟩ => ⟨S8x1x2, .i32⟩
  | .hbm, ⟨50, _⟩ => ⟨S8x4x2048x128, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S8x1, .i32⟩
  | .hbm, ⟨58, _⟩ => ⟨S8x1, .i32⟩
  | .hbm, ⟨59, _⟩ => ⟨S_, .i32⟩
  | .hbm, ⟨60, _⟩ => ⟨S8x1, .i32⟩
  | .hbm, ⟨61, _⟩ => ⟨S8x1, .i1⟩
  | .hbm, ⟨62, _⟩ => ⟨S_, .i32⟩
  | .hbm, ⟨63, _⟩ => ⟨S8x1, .i32⟩
  | .hbm, ⟨64, _⟩ => ⟨S8x1, .i1⟩
  | .hbm, ⟨65, _⟩ => ⟨S_, .i32⟩
  | .hbm, ⟨66, _⟩ => ⟨S_, .i1⟩
  | .hbm, ⟨67, _⟩ => ⟨S8x1, .i1⟩
  | .hbm, ⟨68, _⟩ => ⟨S8x1, .i1⟩
  | .hbm, ⟨69, _⟩ => ⟨S8x1, .i1⟩
  | .hbm, ⟨70, _⟩ => ⟨S8x1, .i32⟩
  | .hbm, ⟨71, _⟩ => ⟨S8x1, .i32⟩
  | .hbm, ⟨72, _⟩ => ⟨S8x1, .i32⟩
  | .hbm, ⟨73, _⟩ => ⟨S8, .i32⟩
  | .hbm, ⟨74, _⟩ => ⟨S8x1, .i32⟩
  | .hbm, ⟨75, _⟩ => ⟨S8x1x4x128, .f32⟩
  | .hbm, ⟨76, _⟩ => ⟨S_, .i32⟩
  | .hbm, ⟨77, _⟩ => ⟨S8x1, .i32⟩
  | .hbm, ⟨78, _⟩ => ⟨S8x1, .i1⟩
  | .hbm, ⟨79, _⟩ => ⟨S_, .i32⟩
  | .hbm, ⟨80, _⟩ => ⟨S8x1, .i32⟩
  | .hbm, ⟨81, _⟩ => ⟨S8x1, .i32⟩
  | .hbm, ⟨82, _⟩ => ⟨S8x1, .i32⟩
  | .hbm, ⟨83, _⟩ => ⟨S_, .i32⟩
  | .hbm, ⟨84, _⟩ => ⟨S8x1, .i32⟩
  | .hbm, ⟨85, _⟩ => ⟨S8x1, .i1⟩
  | .hbm, ⟨86, _⟩ => ⟨S_, .i32⟩
  | .hbm, ⟨87, _⟩ => ⟨S8x1, .i32⟩
  | .hbm, ⟨88, _⟩ => ⟨S8x1, .i32⟩
  | .hbm, ⟨89, _⟩ => ⟨S8x1, .i32⟩
  | .hbm, ⟨90, _⟩ => ⟨S8x1x1, .i32⟩
  | .hbm, ⟨91, _⟩ => ⟨S8x1x1, .i32⟩
  | .hbm, ⟨92, _⟩ => ⟨S8x1x2, .i32⟩
  | .hbm, ⟨93, _⟩ => ⟨S8x4x2048x128, .f32⟩
  | .hbm, ⟨94, _⟩ => ⟨S8, .i32⟩
  | .hbm, ⟨95, _⟩ => ⟨S8x1, .i32⟩
  | .hbm, ⟨96, _⟩ => ⟨S8x1x4x128, .f32⟩
  | .hbm, ⟨97, _⟩ => ⟨S_, .i32⟩
  | .hbm, ⟨98, _⟩ => ⟨S8x1, .i32⟩
  | .hbm, ⟨99, _⟩ => ⟨S8x1, .i1⟩
  | .hbm, ⟨100, _⟩ => ⟨S_, .i32⟩
  | .hbm, ⟨101, _⟩ => ⟨S8x1, .i32⟩
  | .hbm, ⟨102, _⟩ => ⟨S8x1, .i32⟩
  | .hbm, ⟨103, _⟩ => ⟨S8x1, .i32⟩
  | .hbm, ⟨104, _⟩ => ⟨S_, .i32⟩
  | .hbm, ⟨105, _⟩ => ⟨S8x1, .i32⟩
  | .hbm, ⟨106, _⟩ => ⟨S8x1, .i1⟩
  | .hbm, ⟨107, _⟩ => ⟨S_, .i32⟩
  | .hbm, ⟨108, _⟩ => ⟨S8x1, .i32⟩
  | .hbm, ⟨109, _⟩ => ⟨S8x1, .i32⟩
  | .hbm, ⟨110, _⟩ => ⟨S8x1, .i32⟩
  | .hbm, ⟨111, _⟩ => ⟨S8x1x1, .i32⟩
  | .hbm, ⟨112, _⟩ => ⟨S8x1x1, .i32⟩
  | .hbm, ⟨113, _⟩ => ⟨S8x1x2, .i32⟩
  | .hbm, ⟨114, _⟩ => ⟨S8x4x2048x128, .f32⟩
  | .hbm, ⟨115, _⟩ => ⟨S1x8x4x2048x128, .f32⟩
  | .hbm, ⟨116, _⟩ => ⟨S1x8x4x2048x128, .f32⟩
  | .hbm, ⟨117, _⟩ => ⟨S1x8x4x2048x128, .f32⟩
  | .hbm, ⟨118, _⟩ => ⟨S1x8x4x2048x128, .f32⟩
  | .hbm, ⟨119, _⟩ => ⟨S4x8x4x2048x128, .f32⟩
  | _, _ => ⟨S8x4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_c_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_c_1 : Ref sig .tc := ⟨.hbm, 59, rfl⟩
abbrev main_call0_v5 : Ref sig .tc := ⟨.hbm, 60, rfl⟩
abbrev main_call0_v6 : Ref sig .tc := ⟨.hbm, 61, rfl⟩
abbrev main_call0_c_2 : Ref sig .tc := ⟨.hbm, 62, rfl⟩
abbrev main_call0_v7 : Ref sig .tc := ⟨.hbm, 63, rfl⟩
abbrev main_call0_v8 : Ref sig .tc := ⟨.hbm, 64, rfl⟩
abbrev main_call0_c_3 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_v12 : Ref sig .tc := ⟨.hbm, 69, rfl⟩
abbrev main_call0_v13 : Ref sig .tc := ⟨.hbm, 70, rfl⟩
abbrev main_call0_v14 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_c_8 : Ref sig .tc := ⟨.hbm, 76, rfl⟩
abbrev main_v38 : Ref sig .tc := ⟨.hbm, 77, rfl⟩
abbrev main_v39 : Ref sig .tc := ⟨.hbm, 78, rfl⟩
abbrev main_c_9 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_c_10 : Ref sig .tc := ⟨.hbm, 83, rfl⟩
abbrev main_v43 : Ref sig .tc := ⟨.hbm, 84, rfl⟩
abbrev main_v44 : Ref sig .tc := ⟨.hbm, 85, rfl⟩
abbrev main_c_11 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_c_12 : Ref sig .tc := ⟨.hbm, 97, rfl⟩
abbrev main_v55 : Ref sig .tc := ⟨.hbm, 98, rfl⟩
abbrev main_v56 : Ref sig .tc := ⟨.hbm, 99, rfl⟩
abbrev main_c_13 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_c_14 : Ref sig .tc := ⟨.hbm, 104, rfl⟩
abbrev main_v60 : Ref sig .tc := ⟨.hbm, 105, rfl⟩
abbrev main_v61 : Ref sig .tc := ⟨.hbm, 106, rfl⟩
abbrev main_c_15 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩

abbrev nD : Nat := 1
abbrev τ : Topo := Topo.v7x

variable {F : FTy → Type} [FloatOps F]
-- ==== Proof.Base.lean ====
/-
  What every module of this proof shares: the program as the launch theorem sees it, the ghost state the proof
  runs over, and the names of the SparseCore kernel's memrefs and arrays.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the program below the SparseCore launch: the pipeline's over the kernels'. -/
abbrev ΛP : Labels := Pipeline.Sig Λ₀ (Fin 1) fun p => (pcfgs (F := F) p).Adm
/-- The one SparseCore call. -/
abbrev K : SparseCore.Cfg τ sig (ΛP (F := F)) 1 := sc (F := F)
/-- The body table below the SparseCore launch. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and none is the kernel's own scratch. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: the launch's handshakes, the pipeline's rounds, the transfers' counters -/

abbrev UH : Type := URounds (GSem nD τ sig) ℕ
abbrev UP : Type := URounds (GSem nD τ sig) Unit
abbrev UU : Type := UH × (UP × Counters)

/-- The world every assertion of the run is about. -/
abbrev MM (F : FTy → Type) := MT nD τ sig (HIx 1) (Elt F) ℕ UU ℕ

/-- The handshakes' part of the ghost state. -/
abbrev EH : Emb UH (MM F) := embL
/-- The pipeline's part of the ghost state. -/
abbrev EP : Emb UP (MM F) := (Emb.inl : Emb UP (UP × Counters)).trans embR

instance EP_landsIn : (EP : Emb UP (MM F)).LandsIn (upEmb : UEmb _ (MM F)) := by infer_instance

/-- The transfers' counters. -/
abbrev EC : UEmb Counters (MM F) := countersEmb (U := UU)

/-! ## The SparseCore kernel's memrefs and the arrays behind them -/

abbrev posW : Memref sig .scScalar .hbm S24 .i32 := Memref.whole main_v11_scs
abbrev latW : Memref sig .scScalar .hbm S128x128 .f32 := Memref.whole main_v9_scs
abbrev outW : Memref sig .scScalar .hbm S262144x128 .f32 := Memref.whole main_v14_scs
abbrev smW : Memref sig .scScalar .smem S24 .i32 := Memref.whole cc1_scratch0

abbrev posLoc (d : Dev nD) : Loc nD τ sig := (SparseCore.T d).loc main_v11
abbrev latLoc (d : Dev nD) : Loc nD τ sig := (SparseCore.T d).loc main_v9
abbrev outLoc (d : Dev nD) : Loc nD τ sig := (SparseCore.T d).loc main_v14

/-- The kernel's grid point of SparseCore `c`. -/
def coordsS (c : Fin (grid1.bound 0)) : grid1.Coords :=
  fun | 0 => c | ⟨_ + 1, h⟩ => absurd h (Nat.not_lt.2 (Nat.le_add_left _ _))

/-- The sequencer of SparseCore `c`. -/
abbrev seq (d : Dev nD) (c : Fin (grid1.bound 0)) : Thread nD τ := S d (c.castLE hcore1)

end Cert.Proof
-- ==== Proof.Stack.lean ====
/-
  The TensorCore kernel's body: four blocks copied into the four planes of the output's block.
-/
module

public import proofs.«01_k».proof.Proof.Base
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionsLoop
public import Idealize.ShloMosaic.Lib.Tactic
public import Idealize.ShloMosaic.Lib.Pipeline.Value

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [FloatOps F]

/-- Four blocks as the planes of one. -/
def planes (x : Fin 4 → Vec F S4096x128 .f32) : Vec F S4x4096x128 .f32 :=
  fun i => x (i 0) fun | ⟨0, _⟩ => i 1 | ⟨1, _⟩ => i 2

/-- A block recast to one plane, at a place of the plane that starts at row `k` of the planes, is the planes there. -/
theorem plane_at (x : Fin 4 → Vec F S4096x128 .f32) (k : Fin 4) (b : Vec F S4096x128 .f32) (hb : b = x k)
    (hc : S4096x128.ShapeCasts S1x4096x128) (inb : ∀ a, (![k.val, 0, 0] : Fin 3 → ℕ) a + S1x4096x128.size a ≤ S4x4096x128.size a)
    (z : S1x4096x128.Idx) :
    shapeCast S1x4096x128 b hc z = planes x ((Rect.unit (s := S4x4096x128) ![k.val, 0, 0] S1x4096x128.size inb).emb z) := by
  subst hb
  refine (shapeCast_addUnit_apply ![4096, 128] (x k) hc z).trans ?_
  have h0 : (z 0).val = 0 := by have : (z 0).val < 1 := (z 0).isLt; omega
  have e0 : ((Rect.unit (s := S4x4096x128) ![k.val, 0, 0] S1x4096x128.size inb).emb z) 0 = k :=
    Fin.ext (show k.val + 1 * (z 0).val = k.val by omega)
  unfold planes
  rw [e0]
  congr 1
  funext a
  match a with
  | ⟨0, _⟩ => exact Fin.ext (show (z 1).val = 0 + 1 * (z 1).val by omega)
  | ⟨1, _⟩ => exact Fin.ext (show (z 2).val = 0 + 1 * (z 2).val by omega)

/-- A place whose plane is `k` lies in the rectangle of that plane. -/
theorem plane_mem (k : Fin 4) (inb : ∀ a, (![k.val, 0, 0] : Fin 3 → ℕ) a + S1x4096x128.size a ≤ S4x4096x128.size a)
    (y : S4x4096x128.Idx) (hy : y 0 = k) : y ∈ (Rect.unit (s := S4x4096x128) ![k.val, 0, 0] S1x4096x128.size inb).set := by
  rw [← Rect.map_emb_univ]
  refine Finset.mem_map.mpr ⟨fun | ⟨0, _⟩ => ⟨0, Nat.one_pos⟩ | ⟨1, _⟩ => y 1 | ⟨2, _⟩ => y 2, Finset.mem_univ _, ?_⟩
  funext a
  match a with
  | ⟨0, _⟩ => exact Fin.ext (show k.val + 1 * 0 = (y 0).val by rw [hy]; omega)
  | ⟨1, _⟩ => exact Fin.ext (show 0 + 1 * (y 1).val = (y 1).val by omega)
  | ⟨2, _⟩ => exact Fin.ext (show 0 + 1 * (y 2).val = (y 2).val by omega)

/-- What a load of a whole block reads. -/
theorem block_read {m : Memref sig .tc .vmem S4096x128 .f32} {f : m.view.ty.Contents (Elt F)} {x : Vec F S4096x128 .f32}
    (e : m.view.read (Elt F) f = x) :
    m.view.readAt (Elt F) (Rect.unit (s := S4096x128) ![0, 0] S4096x128.size inb_S4096x128_S4096x128_0_0).toLoadRect f = x := by
  have hz : (![0, 0] : Fin 2 → Nat) = fun _ => 0 := funext fun a => by fin_cases a <;> rfl
  rw [View.readAt_eq_ld, View.ld_unit_zero hz, e]

/-- The four planes cover the block. -/
theorem cover (w0 w1 w2 w3 : Vec F S1x4096x128 .f32) (y : S4x4096x128.Idx) :
    ∃ p ∈ ([⟨Rect.unit (s := S4x4096x128) ![3, 0, 0] S1x4096x128.size inb_S4x4096x128_S1x4096x128_3_0_0, w3⟩,
        ⟨Rect.unit (s := S4x4096x128) ![2, 0, 0] S1x4096x128.size inb_S4x4096x128_S1x4096x128_2_0_0, w2⟩,
        ⟨Rect.unit (s := S4x4096x128) ![1, 0, 0] S1x4096x128.size inb_S4x4096x128_S1x4096x128_1_0_0, w1⟩,
        ⟨Rect.unit (s := S4x4096x128) ![0, 0, 0] S1x4096x128.size inb_S4x4096x128_S1x4096x128_0_0_0, w0⟩] :
        List (View.Piece (Elt F) S4x4096x128 .f32)), y ∈ p.1.set := by
  obtain ⟨k, hk⟩ : ∃ k : Fin 4, y 0 = k := ⟨_, rfl⟩
  match k, hk with
  | 0, hk => exact ⟨_, .tail _ (.tail _ (.tail _ (.head _))), plane_mem 0 inb_S4x4096x128_S1x4096x128_0_0_0 y hk⟩
  | 1, hk => exact ⟨_, .tail _ (.tail _ (.head _)), plane_mem 1 inb_S4x4096x128_S1x4096x128_1_0_0 y hk⟩
  | 2, hk => exact ⟨_, .tail _ (.head _), plane_mem 2 inb_S4x4096x128_S1x4096x128_2_0_0 y hk⟩
  | 3, hk => exact ⟨_, .head _, plane_mem 3 inb_S4x4096x128_S1x4096x128_3_0_0 y hk⟩

/-- The body, from its five staging buffers held whole: it returns the four input blocks as they were and the output's
    block holding them as its planes. -/
theorem copy_run (d : Dev nD) (m0 m1 m2 m3 : Memref sig .tc .vmem S4096x128 .f32) (m4 : Memref sig .tc .vmem S4x4096x128 .f32)
    (h0 : m0.IsWhole) (h1 : m1.IsWhole) (h2 : m2.IsWhole) (h3 : m3.IsWhole) (h4 : m4.IsWhole) (i : grid0.Coords)
    (x : Fin 4 → Vec F S4096x128 .f32) (Q : PUnit → sProp (MM F)) :
    iprop(owns (d : Thread nD τ) m0 fullShare (x 0) ∗ owns (d : Thread nD τ) m1 fullShare (x 1)
        ∗ owns (d : Thread nD τ) m2 fullShare (x 2) ∗ owns (d : Thread nD τ) m3 fullShare (x 3)
        ∗ (∃ y, owns (d : Thread nD τ) m4 fullShare y)
        ∗ (iprop(owns (d : Thread nD τ) m0 fullShare (x 0) ∗ owns (d : Thread nD τ) m1 fullShare (x 1)
              ∗ owns (d : Thread nD τ) m2 fullShare (x 2) ∗ owns (d : Thread nD τ) m3 fullShare (x 3)
              ∗ owns (d : Thread nD τ) m4 fullShare (planes x)) -∗ Q ⟨⟩))
      ⊢ wp frame (wpE (defs₀ (F := F)) 𝒱₀ d none) Set.univ
          (cc0__tc_copy_body i m0 h0 m1 h1 m2 h2 m3 h3 m4 h4) Q := by
  simp only [cc0__tc_copy_body_eq_skeleton]; unfold cc0__tc_copy_body_skel
  unfold owns
  iintro ⟨⟨%f0, %e0, H0⟩, ⟨%f1, %e1, H1⟩, ⟨%f2, %e2, H2⟩, ⟨%f3, %e3, H3⟩, ⟨%y, %f4, -, H4⟩, Hk⟩
  sl_exec
  sl_step
  iapply Hk
  isplitl [H0]; · iexists f0; isplitr; swap; (· iexact H0); ipureintro; exact e0
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  iexists _; isplitr; swap; (· iexact H4); ipureintro
  rw [block_read e0, block_read e1, block_read e2, block_read e3]
  rw [View.read_writes_eq_canon]
  · funext y
    refine View.canon_apply_of_pieces (planes x) _ ?_ y (cover _ _ _ _ y)
    intro p hp
    simp only [List.mem_cons, List.not_mem_nil, or_false] at hp
    rcases hp with rfl | rfl | rfl | rfl
    · exact plane_at x 3 _ (shapeCast_self _ _) _ inb_S4x4096x128_S1x4096x128_3_0_0
    · exact plane_at x 2 _ (shapeCast_self _ _) _ inb_S4x4096x128_S1x4096x128_2_0_0
    · exact plane_at x 1 _ (shapeCast_self _ _) _ inb_S4x4096x128_S1x4096x128_1_0_0
    · exact plane_at x 0 _ (shapeCast_self _ _) _ inb_S4x4096x128_S1x4096x128_0_0_0
  · exact cover _ _ _ _

end Cert.Proof

end
-- ==== Proof.Copy.lean ====
/-
  The TensorCore's pipeline over sixteen blocks: its proof data from any contents of the arrays, the body obligation, and
  the array it leaves, which is the four caches stacked.
-/
module

public import proofs.«01_k».proof.Proof.Stack

@[expose] public section

noncomputable section

namespace Cert.Proof

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- Four arrays as the planes of one. -/
def stack (x : Fin 4 → Vec F S65536x128 .f32) : Vec F S4x65536x128 .f32 :=
  fun i => x (i 0) fun | ⟨0, _⟩ => i 1 | ⟨1, _⟩ => i 2

/-- The contents of every buffer the TensorCore names, on every device. -/
abbrev Vals (F : FTy → Type) : Type := (c : Dev nD) → (b : Ref sig .tc) → Buf (Elt F) ((c : Thread nD τ).loc b)

variable (V : Vals F)

/-- The four caches among those contents. -/
def caches (c : Dev nD) : Fin 4 → Vec F S65536x128 .f32
  | 0 => V c main_v0 | 1 => V c main_v1 | 2 => V c main_v2 | 3 => V c main_v3

/-- The four blocks at a point. -/
def blocks (c : Dev nD) (t : Fin cfg0.N) : Fin 4 → Vec F S4096x128 .f32
  | 0 => ((cfg0.win 0).blk t).view.read (Elt F) (V c main_v0)
  | 1 => ((cfg0.win 1).blk t).view.read (Elt F) (V c main_v1)
  | 2 => ((cfg0.win 2).blk t).view.read (Elt F) (V c main_v2)
  | 3 => ((cfg0.win 3).blk t).view.read (Elt F) (V c main_v3)

/-- The pairs of a semaphore and an index that the TensorCore may have recorded, to a level. -/
def upTo (c : Dev nD) (b : ℕ) : Set (SemLoc sig × HIx 1) := {p | (K (F := F)).lev (((c : Thread nD τ)), p.1) p.2 ≤ b}

variable (O : Dev nD → CellTallies nD τ sig (HIx 1)) (b : ℕ)

/-- The pipeline's proof data: the arrays at `V`; after the body the inputs' buffers as fetched and the output's at their
    planes; the core's debts constant. -/
def dat (c : Dev nD) : Dat τ (Elt F) (HIx 1) ℕ UU ℕ cfg0 c where
  A w := V c (Pipeline.arrRef spec0 w)
  after w t := match w with
    | ⟨0, _⟩ => blocks V c t 0
    | ⟨1, _⟩ => blocks V c t 1
    | ⟨2, _⟩ => blocks V c t 2
    | ⟨3, _⟩ => blocks V c t 3
    | ⟨4, _⟩ => planes (blocks V c t)
  Φ _ := BI.emp
  q _ := fullShare
  owed _ := O c
  recorded _ := upTo (F := F) c b

theorem before0 (c : Dev nD) (t : Fin cfg0.N) (d) : (dat V O b c).before 0 t d = blocks V c t 0 :=
  (dat V O b c).before_fetched 0 t (fetch0_0 t) d
theorem before1 (c : Dev nD) (t : Fin cfg0.N) (d) : (dat V O b c).before 1 t d = blocks V c t 1 :=
  (dat V O b c).before_fetched 1 t (fetch0_1 t) d
theorem before2 (c : Dev nD) (t : Fin cfg0.N) (d) : (dat V O b c).before 2 t d = blocks V c t 2 :=
  (dat V O b c).before_fetched 2 t (fetch0_2 t) d
theorem before3 (c : Dev nD) (t : Fin cfg0.N) (d) : (dat V O b c).before 3 t d = blocks V c t 3 :=
  (dat V O b c).before_fetched 3 t (fetch0_3 t) d

/-- The body the pipeline calls at a point is the kernel's at that point's buffers. -/
theorem defs₀_row (t : Fin cfg0.N) : defs₀ (F := F) .tc cfg0.body (cfg0.bodyArgs t (cfg0.slots t)) = bodyAt0 t := rfl

/-- The body obligation at every point. -/
theorem body_obligation (c : Dev nD) : BodyObligation (dat V O b c) (defs₀ (F := F)) 𝒱₀ (none : HIx 1) Set.univ := fun t => by
  rw [bigSep_W0, bigSep_W0, defs₀_row]
  rw [show (dat V O b c).Φ t.castSucc = BI.emp from rfl, show (dat V O b c).Φ t.succ = BI.emp from rfl,
    show (dat V O b c).owesAt none t.succ = (dat V O b c).owesAt none t.castSucc from rfl]
  unfold bodyAt0
  iintro ⟨-, Howes, ⟨%d0, H0⟩, ⟨%d1, H1⟩, ⟨%d2, H2⟩, ⟨%d3, H3⟩, ⟨%d4, H4⟩⟩
  ihave H0 := (Entails.of_eq (congrArg (fun z => owns (c : Thread nD τ) (st0_0 t) fullShare z) (before0 V O b c t d0))) $$ H0
  ihave H1 := (Entails.of_eq (congrArg (fun z => owns (c : Thread nD τ) (st0_1 t) fullShare z) (before1 V O b c t d1))) $$ H1
  ihave H2 := (Entails.of_eq (congrArg (fun z => owns (c : Thread nD τ) (st0_2 t) fullShare z) (before2 V O b c t d2))) $$ H2
  ihave H3 := (Entails.of_eq (congrArg (fun z => owns (c : Thread nD τ) (st0_3 t) fullShare z) (before3 V O b c t d3))) $$ H3
  iapply (copy_run c (st0_0 t) (st0_1 t) (st0_2 t) (st0_3 t) (st0_4 t) _ _ _ _ _ (grid0.coords t) (blocks V c t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitr; · iempintro
  isplitl [Howes]; · iexact Howes
  isplitl [H0]; · iexact H0
  isplitl [H1]; · iexact H1
  isplitl [H2]; · iexact H2
  isplitl [H3]; · iexact H3
  iexact H4

/-! ## The array it leaves -/

theorem idx0 : ∀ t : Fin cfg0.N, win0_0.index t (0 : Fin 2) = t.val ∧ win0_0.index t (1 : Fin 2) = 0 :=
  (by decide +kernel : ∀ t : Fin grid0.N, _)
theorem idx4 : ∀ t : Fin cfg0.N, win0_4.index t (0 : Fin 3) = 0 ∧ win0_4.index t (1 : Fin 3) = t.val
    ∧ win0_4.index t (2 : Fin 3) = 0 := (by decide +kernel : ∀ t : Fin grid0.N, _)

/-- The place in a cache of a place of its block at a point. -/
def inCache (t : Fin cfg0.N) (j : S4096x128.Idx) : S65536x128.Idx
  | ⟨0, _⟩ => ⟨t.val * 4096 + (j 0).val, by
      have h0 : (j 0).val < 4096 := (j 0).isLt; have h1 : t.val < 16 := t.isLt; show _ < 65536; omega⟩
  | ⟨1, _⟩ => j 1

theorem emb_in (t : Fin cfg0.N) (j : S4096x128.Idx) : ((cfg0.win 0).blk t).view.emb j = inCache t j := by
  obtain ⟨e0, e1⟩ := idx0 t
  funext a; apply Fin.ext
  match a with
  | ⟨0, _⟩ => show win0_0.index t (0 : Fin 2) * 4096 + 1 * (j 0).val = t.val * 4096 + (j 0).val; omega
  | ⟨1, _⟩ => show win0_0.index t (1 : Fin 2) * 128 + 1 * (j 1).val = (j 1).val; omega

/-- Every block is the cache's part of that point. -/
theorem blocks_apply (c : Dev nD) (t : Fin cfg0.N) (k : Fin 4) (j : S4096x128.Idx) :
    blocks V c t k j = caches V c k (inCache t j) := by
  rw [← emb_in]
  match k with
  | 0 => rfl
  | 1 => rfl
  | 2 => rfl
  | 3 => rfl

theorem emb_out (t : Fin cfg0.N) (j : S4x4096x128.Idx) : (((cfg0.win 4).blk t).view.emb j : S4x65536x128.Idx)
    = fun | ⟨0, _⟩ => j 0 | ⟨1, _⟩ => ⟨t.val * 4096 + (j 1).val, by
      have h0 : (j 1).val < 4096 := (j 1).isLt; have h1 : t.val < 16 := t.isLt; show _ < 65536; omega⟩ | ⟨2, _⟩ => j 2 := by
  obtain ⟨e0, e1, e2⟩ := idx4 t
  funext a; apply Fin.ext
  match a with
  | ⟨0, _⟩ => show win0_4.index t (0 : Fin 3) * 4 + 1 * (j 0).val = (j 0).val; omega
  | ⟨1, _⟩ => show win0_4.index t (1 : Fin 3) * 4096 + 1 * (j 1).val = t.val * 4096 + (j 1).val; omega
  | ⟨2, _⟩ => show win0_4.index t (2 : Fin 3) * 128 + 1 * (j 2).val = (j 2).val; omega

/-- What a point writes back is its part of the stacked caches. -/
theorem flushed_eq (c : Dev nD) (t : Fin cfg0.N) :
    (dat V O b c).flushed 4 t = ((cfg0.win 4).blk t).view.read (Elt F) (stack (caches V c)) := by
  show (fun j : S4x4096x128.Idx => planes (blocks V c t) j) = fun j => stack (caches V c) (((cfg0.win 4).blk t).view.emb j)
  funext j
  rw [emb_out]
  refine (blocks_apply V c t (j 0) _).trans (congrArg (caches V c (j 0)) ?_)
  funext a
  match a with
  | ⟨0, _⟩ => rfl
  | ⟨1, _⟩ => rfl

/-- The sixteen blocks cover the output. -/
theorem covered (i : S4x65536x128.Idx) :
    ∃ t : Fin cfg0.N, (cfg0.win 4).flush t = true ∧ i ∈ ((cfg0.win 4).blk t).view.set := by
  have h1 : (i 1).val < 65536 := (i 1).isLt
  let t : Fin cfg0.N := ⟨(i 1).val / 4096, by show _ < 16; omega⟩
  refine ⟨t, flush0_4 t, ?_⟩
  have h := ((cfg0.win 4).blk t).view.emb_mem_set
    (fun | ⟨0, _⟩ => i 0 | ⟨1, _⟩ => ⟨(i 1).val % 4096, Nat.mod_lt _ (by decide)⟩ | ⟨2, _⟩ => i 2 : S4x4096x128.Idx)
  rw [emb_out] at h
  refine (congrArg (· ∈ ((cfg0.win 4).blk t).view.set) (funext fun a => ?_)).mp h
  match a with
  | ⟨0, _⟩ => rfl
  | ⟨1, _⟩ => exact Fin.ext (show (i 1).val / 4096 * 4096 + (i 1).val % 4096 = (i 1).val by omega)
  | ⟨2, _⟩ => rfl

/-- The output array after the pipeline: the four caches stacked. -/
theorem final_out (c : Dev nD) : (dat V O b c).arrAt 4 cfg0.N = stack (caches V c) :=
  (dat V O b c).arrAt_eq_of_cover 4 (stack (caches V c)) (fun t _ => flushed_eq V O b c t) covered

end Cert.Proof

end
-- ==== Proof.Region.lean ====
/-
  The TensorCore's pipeline as a region of the program: entered with every array of the core held, left with the output
  holding the four caches stacked, the core's debts to the SparseCore launch carried across.
-/
module

public import proofs.«01_k».proof.Proof.Copy

@[expose] public section

noncomputable section

namespace Cert.Proof

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The pipeline's tables: none. -/
abbrev adm : (p : Fin 1) → (pcfgs (F := F) p).Adm := fun p => (cfgs p).toPCfg_adm

/-- The one pipeline's proof data. -/
def pdats (V : Vals F) (O : Dev nD → CellTallies nD τ sig (HIx 1)) (b : ℕ) :
    (p : Fin 1) → (c : Dev nD) → Dat τ (Elt F) (HIx 1) ℕ UU ℕ (Pipeline.pin (pcfgs (F := F)) adm p) c :=
  fun _ c => dat V O b c

/-- The core's debts, its recorded waits to a level. -/
abbrev debts (O : Dev nD → CellTallies nD τ sig (HIx 1)) (b : ℕ) (c : Dev nD) : sProp (MM F) :=
  iprop(∃ W, ⌜(K (F := F)).WBelow (c : Thread nD τ) W b⌝ ∗ owes (c : Thread nD τ) (O c) W)

set_option backward.isDefEq.respectTransparency.types false in
/-- The region, from contents `V` to contents `V'` that differ at the output alone. -/
def reg (V V' : Vals F) (O : Dev nD → CellTallies nD τ sig (HIx 1)) (hO : ∀ c g, O c g none = 0) (b : ℕ)
    (hout : ∀ c, V' c main_v12 = stack (caches V c)) (hne : ∀ c (r : Ref sig .tc), r ≠ main_v12 → V' c r = V c r) :
    Pipeline.RegionSeg (pcfgs (F := F)) adm (pdats V O b) (none : HIx 1) (defs₀ (F := F)) 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V O b c).loose
  hwaits c := Pipeline.cellsWaits_intro _ _ _ 0 c fun w s t => (K (F := F)).mayWait_none _ (hO c)
  pre c := iprop(unscopedBufs c (V c) ∗ debts O b c)
  post c := iprop(unscopedBufs c (V' c) ∗ debts O b c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V O b) (launch0).win (launch0).arr_whole c
      ((pdats V O b 0 c).share_full fun _ => rfl) (V c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V O b 0 c).Φ 0 = BI.emp from rfl]
    iintro ⟨-, -, Hr⟩
    iapply (show Pipeline.scopedRest (Ix := HIx 1) (Name := ℕ) (U := UU) (Lvl := ℕ) (Val := Elt F) spec0 c ⊢ BI.emp from
      Entails.of_eq (scopedRest0_eq c)) $$ Hr
  hout c := by
    rw [Pipeline.ownSems0_none, show (pdats V O b 0 c).Φ (Fin.last _) = BI.emp from rfl]
    iintro -
    isplitr; · iempintro
    isplitr; · iempintro
    iapply (show BI.emp ⊢ Pipeline.scopedRest (Ix := HIx 1) (Name := ℕ) (U := UU) (Lvl := ℕ) (Val := Elt F) spec0 c from
      Entails.of_eq (scopedRest0_eq c).symm)
    iempintro
  hexit c := by
    have hjoin := Pipeline.unscopedBufs_of_arrays (p := 0) (pcfgs (F := F)) adm (Ix := HIx 1) (Name := ℕ) (U := UU) (Lvl := ℕ) (launch0).win (launch0).arr_whole c
      (pdats V O b) ((pdats V O b 0 c).share_full fun _ => rfl) (V c) (V' c) ((pdats V O b 0 c).arrAt · cfg0.N)
      (fun w => by
        fin_cases w
        · exact ((pdats V O b 0 c).arrAt_in 0 rfl _).trans (hne c main_v0 (by decide)).symm
        · exact ((pdats V O b 0 c).arrAt_in 1 rfl _).trans (hne c main_v1 (by decide)).symm
        · exact ((pdats V O b 0 c).arrAt_in 2 rfl _).trans (hne c main_v2 (by decide)).symm
        · exact ((pdats V O b 0 c).arrAt_in 3 rfl _).trans (hne c main_v3 (by decide)).symm
        · exact (final_out V O b c).trans (hout c).symm)
      (fun r hr => hne c r fun h => hr (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof

end
-- ==== Proof.Rows.lean ====
/-
  The 128 row copies of the SparseCore kernel, stated once for transfer number `t`: its row word, its two slices, the
  issues and the waits as folds over `t`, and what each fold does.
-/
module

public import proofs.«01_k».proof.Proof.Base

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-! ## Transfer `t`: which row goes where -/

/-- The row of the update that transfer `t` reads: cache `t % 4`, sequence-and-head `t / 4`. -/
def srcRow (t : ℕ) : ℕ := (t % 4) * 32 + t / 4

/-- The row transfer `t` writes, as the kernel computes it from the word `v` read for its sequence: caches 0 and 1 at
    `v`, caches 2 and 3 (the sliding window's) at `v` reduced to nine bits. -/
def rowWord (t : ℕ) (v : BitVec 32) : BitVec 32 :=
  Scalar.addi (BitVec.ofNat 32 (65536 * (t % 4) + 2048 * (t / 4))) (bif Nat.blt (t % 4) 2 then v else Scalar.andi v 511#32)

/-- The offset of the row transfer `t` writes. -/
def rowOff (t : ℕ) (v : BitVec 32) : Fin 2 → ℕ := ![(rowWord t v).toNat, 0]

/-- The source row lies in the update. -/
theorem src_inb (t : Fin 128) : ∀ a, (![srcRow t.val, 0] : Fin 2 → ℕ) a + S1x128.size a ≤ S128x128.size a := by
  intro a
  have h := t.isLt
  match a with
  | ⟨0, _⟩ => show srcRow t.val + 1 ≤ 128; unfold srcRow; omega
  | ⟨1, _⟩ => show 0 + 128 ≤ 128; omega

/-- The positions' words, by sequence: the SMEM copy's first eight. -/
abbrev Words := Fin 8 → BitVec 32

/-- The sequence transfer `t` belongs to. -/
def seqOf (t : Fin 128) : Fin 8 := ⟨t.val / 16, by have := t.isLt; omega⟩

/-- All the rows written lie in the output: what the kernel's checks come to. -/
def InB (v : Words) : Prop := ∀ (t : Fin 128) a, rowOff t.val (v (seqOf t)) a + S1x128.size a ≤ S262144x128.size a

/-- Transfer `t`'s source row. -/
abbrev srcM (t : Fin 128) : Memref sig .scScalar .hbm S1x128 .f32 :=
  latW.slice (Rect.unit (s := S128x128) ![srcRow t.val, 0] S1x128.size (src_inb t)) (fun _ => rfl)

/-- Transfer `t`'s destination row. -/
abbrev dstM (v : Words) (hv : InB v) (t : Fin 128) : Memref sig .scScalar .hbm S1x128 .f32 :=
  outW.slice (Rect.unit (s := S262144x128) (rowOff t.val (v (seqOf t))) S1x128.size (hv t)) (fun _ => rfl)

section Progs

variable (c : Fin τ.nSC)

/-- The program part of the kernel on a sequencer. -/
abbrev PG (F : FTy → Type) (c : Fin τ.nSC) (α : Type) := Prog (TpuEff nD τ sig (Elt F) Λ₀ (.scScalar c)) α

/-- Issue transfers `a, …, a + n - 1`, then go on. -/
def issues {α : Type} (v : Words) (hv : InB v) : (n a : ℕ) → a + n ≤ 128 → PG F c α → PG F c α
  | 0, _, _, k => k
  | n + 1, a, h, k =>
    .op (.enqueueDma (srcM ⟨a, by omega⟩) (.here (dstM v hv ⟨a, by omega⟩)) (.dma cc1_scratch1.sem)
      (View.wordExact_bits rfl) (View.wordExact_bits rfl) ⟨Or.inl rfl, trivial⟩) fun _ => issues v hv n (a + 1) (by omega) k

/-- Wait for transfers `a, …, a + n - 1`, then go on. -/
def waits {α : Type} (v : Words) (hv : InB v) : (n a : ℕ) → a + n ≤ 128 → PG F c α → PG F c α
  | 0, _, _, k => k
  | n + 1, a, h, k =>
    .op (.waitDma2 cc1_scratch1.sem (srcM ⟨a, by omega⟩) (dstM v hv ⟨a, by omega⟩)
      (View.wordExact_bits rfl) (View.wordExact_bits rfl)) fun _ => waits v hv n (a + 1) (by omega) k

end Progs

/-! ## The ownership the copies run over -/

section Run

variable (d : Dev nD) (c : Fin τ.nSC)

/-- Transfer `t`'s source row, held. -/
def srcP (lat : Buf (Elt F) (latLoc d)) (t : Fin 128) : sProp (MM F) :=
  (srcM t).view.loc (S d c) ↦[(srcM t).view.set]{fullShare} lat

/-- Transfer `t`'s destination row, held. -/
def dstP (v : Words) (hv : InB v) (f : Buf (Elt F) (outLoc d)) (t : Fin 128) : sProp (MM F) :=
  (dstM v hv t).view.loc (S d c) ↦[(dstM v hv t).view.set]{fullShare} f

/-- What is in the output after transfer `t` alone. -/
def landed (v : Words) (hv : InB v) (lat : Buf (Elt F) (latLoc d)) (out : Buf (Elt F) (outLoc d)) (t : Fin 128) :
    Buf (Elt F) (outLoc d) :=
  (dstM v hv t).view.write (Elt F) out ((srcM t).view.read (Elt F) lat) Finset.univ

/-- What transfer `t` takes with it. -/
def rowIn (v : Words) (hv : InB v) (lat : Buf (Elt F) (latLoc d)) (out : Buf (Elt F) (outLoc d)) (t : Fin 128) : sProp (MM F) :=
  iprop(srcP d c lat t ∗ dstP d c v hv out t)

/-- What transfer `t` brings back. -/
def rowBack (v : Words) (hv : InB v) (lat : Buf (Elt F) (latLoc d)) (out : Buf (Elt F) (outLoc d)) (t : Fin 128) : sProp (MM F) :=
  iprop(dstP d c v hv (landed d v hv lat out t) t ∗ srcP d c lat t)

instance rowBack_storable (v : Words) (hv : InB v) (lat : Buf (Elt F) (latLoc d)) (out : Buf (Elt F) (outLoc d)) (t : Fin 128) :
    BI.Storable (upEmb : UEmb _ (MM F)) (rowBack d c v hv lat out t) := by
  unfold rowBack dstP srcP; infer_instance

/-- The units one row's copy is counted by: the same for every row. -/
def rowUnits : ℕ := (srcM 0).view.dmaCredit

theorem units_dst (v : Words) (hv : InB v) (t : Fin 128) : (dstM v hv t).view.dmaCredit = rowUnits := rfl

theorem rowUnits_pos : 0 < rowUnits := View.dmaCredit_pos _ (by decide)

/-- The batch of all 128 copies, `k` of them issued and `u` units of them waited for. -/
abbrev B (v : Words) (hv : InB v) (lat : Buf (Elt F) (latLoc d)) (out : Buf (Elt F) (outLoc d)) (k u : ℕ) : sProp (MM F) :=
  Transfers.Batch EC (S d c) (.dma cc1_scratch1.sem) (none : HIx 1) rowUnits (rowBack d c v hv lat out) k u

variable [FloatOps F]

/-- One issue of a batch of `n` copies between any two rows, spelt with the copy's own memrefs. -/
theorem wp_issue {α : Type} {n : ℕ} (src dst : Memref sig .scScalar .hbm S1x128 .f32) {h₁ h₂ h₃}
    (fs : Buf (Elt F) (src.view.loc (S d c))) (fd : Buf (Elt F) (dst.view.loc (S d c))) (N : ℕ) (hN : dst.view.dmaCredit = N)
    (R : Fin n → sProp (MM F)) (j : ℕ) (hj : j < n) (k : PUnit → PG F c α) (Q : α → sProp (MM F))
    (hR : R ⟨j, hj⟩ = iprop((dst.view.loc (S d c) ↦[dst.view.set]{fullShare} dst.view.write (Elt F) fd (src.view.read (Elt F) fs) Finset.univ)
      ∗ src.view.loc (S d c) ↦[src.view.set]{fullShare} fs)) :
    iprop(((src.view.loc (S d c) ↦[src.view.set]{fullShare} fs) ∗ dst.view.loc (S d c) ↦[dst.view.set]{fullShare} fd)
        ∗ Transfers.Batch EC (S d c) (.dma cc1_scratch1.sem) (none : HIx 1) N R j 0)
      ⊢ iprop((Transfers.Batch EC (S d c) (.dma cc1_scratch1.sem) (none : HIx 1) N R (j + 1) 0
            -∗ wp frame (wpE (defs₀ (F := F)) 𝒱₀ (S d c) none) Set.univ (k ⟨⟩) Q)
          -∗ wp frame (wpE (defs₀ (F := F)) 𝒱₀ (S d c) none) Set.univ
            (.op (.enqueueDma src (.here dst) (.dma cc1_scratch1.sem) h₁ h₂ h₃) k) Q) :=
  sep_assoc.1.trans (Transfers.wp_dmaBatch EC 𝒱₀ (S d c) none (via := .same) (none : HIx 1) N hN (Finset.Subset.refl _) hj (Nat.zero_le _)
    (Entails.of_eq hR.symm))

/-- Issuing transfers `a, …, a + n - 1`: their rows leave, the batch has them issued. -/
theorem wp_issues {α : Type} (v : Words) (hv : InB v) (lat : Buf (Elt F) (latLoc d)) (out : Buf (Elt F) (outLoc d))
    (k : PG F c α) (Q : α → sProp (MM F)) : ∀ (n a : ℕ) (h : a + n ≤ 128),
    iprop(bigSep (Transfers.pending a) (rowIn d c v hv lat out) ∗ B d c v hv lat out a 0)
      ⊢ iprop((bigSep (Transfers.pending (a + n)) (rowIn d c v hv lat out) ∗ B d c v hv lat out (a + n) 0
            -∗ wp frame (wpE (defs₀ (F := F)) 𝒱₀ (S d c) none) Set.univ k Q)
          -∗ wp frame (wpE (defs₀ (F := F)) 𝒱₀ (S d c) none) Set.univ (issues c v hv n a h k) Q)
  | 0, a, h => by
    iintro H Hk
    iapply Hk
    iexact H
  | n + 1, a, h => by
    have ha : a < 128 := by omega
    rw [Transfers.bigSep_pending_step _ a ha]
    iintro ⟨⟨Hr, Hrest⟩, HB⟩ Hk
    iapply (wp_issue d c (srcM ⟨a, ha⟩) (dstM v hv ⟨a, ha⟩) lat out rowUnits rfl (rowBack d c v hv lat out) a ha
      (fun _ => issues c v hv n (a + 1) (by omega) k) Q rfl) $$ [Hr HB]
    · isplitl [Hr]; · iapply (show rowIn d c v hv lat out ⟨a, ha⟩ ⊢ iprop(srcP d c lat ⟨a, ha⟩ ∗ dstP d c v hv out ⟨a, ha⟩) from .rfl) $$ Hr
      iexact HB
    iintro HB
    have e : a + (n + 1) = (a + 1) + n := by omega
    rw [e]
    iapply (wp_issues v hv lat out k Q n (a + 1) _) $$ [Hrest HB]
    · isplitl [Hrest] <;> iassumption
    iexact Hk

/-- Waiting for transfers `a, …, a + n - 1`: the batch has them waited for. -/
theorem wp_waits {α : Type} (v : Words) (hv : InB v) (lat : Buf (Elt F) (latLoc d)) (out : Buf (Elt F) (outLoc d))
    (k : PG F c α) (Q : α → sProp (MM F)) (O : CellTallies nD τ sig (HIx 1)) : ∀ (n a : ℕ) (h : a + n ≤ 128) (W : Waits sig (HIx 1)),
    iprop(B d c v hv lat out 128 (a * rowUnits) ∗ owes (S d c) O W ∗ Transfers.MayWaits (S d c) (none : HIx 1) O)
      ⊢ iprop((B d c v hv lat out 128 ((a + n) * rowUnits) ∗ (∃ W', ⌜∀ p ∈ W', p ∈ W ∨ p.2 = none⌝ ∗ owes (S d c) O W')
            -∗ wp frame (wpE (defs₀ (F := F)) 𝒱₀ (S d c) none) Set.univ k Q)
          -∗ wp frame (wpE (defs₀ (F := F)) 𝒱₀ (S d c) none) Set.univ (waits c v hv n a h k) Q)
  | 0, a, h, W => by
    iintro ⟨HB, HO, -⟩ Hk
    iapply Hk
    isplitl [HB]; · iexact HB
    iexists W; isplitr
    · ipureintro; exact fun p hp => .inl hp
    · iexact HO
  | n + 1, a, h, W => by
    iintro ⟨HB, HO, #Hmw⟩ Hk
    unfold waits
    iapply (Transfers.wp_waitBatchMulO EC 𝒱₀ (S d c) none (D := rowBack d c v hv lat out) (j := 128) (u := a * rowUnits) (O := O) (W := W)
      (none : HIx 1) (N := rowUnits) 1 (by rw [Nat.one_mul]; rfl)
      (by rw [Nat.one_mul, Nat.mul_comm rowUnits]; calc a * rowUnits + rowUnits = (a + 1) * rowUnits := by ring
            _ ≤ 128 * rowUnits := Nat.mul_le_mul_right _ (by omega))) $$ [HB HO]
    · isplitl [HB]; · iexact HB
      isplitl [HO]; · iexact HO
      iapply (Transfers.MayWaits.elim _); iexact Hmw
    iintro ⟨HB, HO⟩
    have e : a + (n + 1) = (a + 1) + n := by omega
    have e' : a * rowUnits + 1 * rowUnits = (a + 1) * rowUnits := by ring
    rw [e, e']
    iapply (wp_waits v hv lat out k Q O n (a + 1) _ (insert (SemLoc.dma cc1_scratch1.sem, none) W)) $$ [HB HO]
    · isplitl [HB]; · iexact HB
      isplitl [HO]; · iexact HO
      iexact Hmw
    iintro ⟨HB, %W', %hW', HO⟩
    iapply Hk
    isplitl [HB]; · iexact HB
    iexists W'; isplitr
    · ipureintro; intro p hp
      rcases hW' p hp with h | h
      · rcases Finset.mem_insert.mp h with rfl | h
        · exact .inr rfl
        · exact .inl h
      · exact .inr h
    · iexact HO

end Run

end Cert.Proof
-- ==== Proof.Patch.lean ====
/-
  Which rows the 128 copies write, that they are all different and all in the output, and what the output holds after
  them: the update's rows patched over what was there.
-/
module

public import proofs.«01_k».proof.Proof.Rows

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-! ## The rows written -/

/-- The row of its own page that transfer `t` writes at position `p`: `p`, or `p` modulo the window's 512. -/
def slot (t p : ℕ) : ℕ := if t % 4 < 2 then p else p % 512

theorem slot_lt {t p : ℕ} (hp : p < 2048) : slot t p < 2048 := by
  unfold slot; split <;> omega

/-- The positions all name rows of the cache. -/
def Small (v : Words) : Prop := ∀ b, (v b).toNat < 2048

theorem andi_511 (w : BitVec 32) : (Scalar.andi w 511#32).toNat = w.toNat % 512 := by
  show (w &&& 511#32).toNat = _
  rw [BitVec.toNat_and]
  exact Nat.and_two_pow_sub_one_eq_mod w.toNat 9

theorem addi_ofNat (n : ℕ) (w : BitVec 32) (h : n + w.toNat < 2 ^ 32) : (Scalar.addi (BitVec.ofNat 32 n) w).toNat = n + w.toNat := by
  show (BitVec.ofNat 32 n + w).toNat = _
  rw [BitVec.toNat_add, BitVec.toNat_ofNat, Nat.mod_eq_of_lt (show n < 2 ^ 32 by omega), Nat.mod_eq_of_lt h]

/-- The row word without the words: page `t % 4`, sequence and head `t / 4`, and the slot. -/
theorem rowWord_toNat {t : ℕ} (ht : t < 128) {w : BitVec 32} (hw : w.toNat < 2048) :
    (rowWord t w).toNat = 65536 * (t % 4) + 2048 * (t / 4) + slot t w.toNat := by
  have e : (bif Nat.blt (t % 4) 2 then w else Scalar.andi w 511#32).toNat = slot t w.toNat := by
    unfold slot
    by_cases h : t % 4 < 2
    · rw [if_pos h, show Nat.blt (t % 4) 2 = true from by simpa using h]; rfl
    · rw [if_neg h, show Nat.blt (t % 4) 2 = false from Bool.eq_false_iff.mpr (by simpa using h)]; exact andi_511 w
  have := slot_lt (t := t) hw
  unfold rowWord
  rw [addi_ofNat _ _ (by rw [e]; omega), e]

/-- Positions of the cache write rows of the output. -/
theorem inB_of_small {v : Words} (hv : Small v) : InB v := by
  intro t a
  have h := t.isLt
  have hs := slot_lt (t := t.val) (hv (seqOf t))
  match a with
  | ⟨0, _⟩ =>
    show (rowWord t.val (v (seqOf t))).toNat + 1 ≤ 262144
    rw [rowWord_toNat h (hv _)]; omega
  | ⟨1, _⟩ => show 0 + 128 ≤ 128; omega

/-- The transfer that may write row `r` of the output: the one for its page, sequence and head. -/
def owner (r : ℕ) : ℕ := (r % 65536 / 2048) * 4 + r / 65536

theorem owner_lt {r : ℕ} (hr : r < 262144) : owner r < 128 := by unfold owner; omega

theorem owner_row {t s : ℕ} (ht : t < 128) (hs : s < 2048) : owner (65536 * (t % 4) + 2048 * (t / 4) + s) = t := by
  unfold owner; omega

theorem owner_rowWord {v : Words} (hv : Small v) (t : Fin 128) : owner (rowWord t.val (v (seqOf t))).toNat = t.val := by
  rw [rowWord_toNat t.isLt (hv _)]; exact owner_row t.isLt (slot_lt (hv _))

/-- The transfer of row `r`, as a transfer. -/
def ownerF (r : Fin 262144) : Fin 128 := ⟨owner r.val, owner_lt r.isLt⟩

/-! ## The rows as sets of elements -/

/-- The elements transfer `t` reads; -/
def srcK (t : Fin 128) : Finset S128x128.Idx := (srcM t).view.set
/-- those it writes. -/
def dstK (v : Words) (hv : InB v) (t : Fin 128) : Finset S262144x128.Idx := (dstM v hv t).view.set

theorem mem_srcK {t : Fin 128} {i : S128x128.Idx} : i ∈ srcK t ↔ (i 0).val = srcRow t.val := by
  unfold srcK
  rw [show (srcM t).view.set = (Rect.unit (s := S128x128) ![srcRow t.val, 0] S1x128.size (src_inb t)).set from View.set_slice_whole _ _,
    Rect.mem_set_unit]
  have h1 := (i 1).isLt
  constructor
  · intro h
    have h0 : srcRow t.val ≤ (i 0).val ∧ (i 0).val < srcRow t.val + 1 := h 0
    omega
  · intro h a
    match a with
    | ⟨0, _⟩ => show srcRow t.val ≤ (i 0).val ∧ (i 0).val < srcRow t.val + 1; omega
    | ⟨1, _⟩ => exact ⟨Nat.zero_le _, by rw [show (![srcRow t.val, 0] : Fin 2 → ℕ) ⟨1, _⟩ = 0 from rfl, Nat.zero_add]; exact h1⟩

theorem mem_dstK {v : Words} {hv : InB v} {t : Fin 128} {i : S262144x128.Idx} :
    i ∈ dstK v hv t ↔ (i 0).val = (rowWord t.val (v (seqOf t))).toNat := by
  unfold dstK
  rw [show (dstM v hv t).view.set = (Rect.unit (s := S262144x128) (rowOff t.val (v (seqOf t))) S1x128.size (hv t)).set from
      View.set_slice_whole _ _, Rect.mem_set_unit]
  have h1 := (i 1).isLt
  constructor
  · intro h
    have h0 : (rowWord t.val (v (seqOf t))).toNat ≤ (i 0).val ∧ (i 0).val < (rowWord t.val (v (seqOf t))).toNat + 1 := h 0
    omega
  · intro h a
    match a with
    | ⟨0, _⟩ => show (rowWord t.val (v (seqOf t))).toNat ≤ (i 0).val ∧ (i 0).val < (rowWord t.val (v (seqOf t))).toNat + 1; omega
    | ⟨1, _⟩ => exact ⟨Nat.zero_le _, by
        rw [show rowOff t.val (v (seqOf t)) ⟨1, by decide⟩ = 0 from rfl, Nat.zero_add]; exact h1⟩

/-- No two transfers read the same row; -/
theorem srcK_disjoint (t t' : Fin 128) (h : t ≠ t') : Disjoint (srcK t) (srcK t') := by
  rw [Finset.disjoint_left]
  intro i hi hi'
  rw [mem_srcK] at hi hi'
  have e : srcRow t.val = srcRow t'.val := hi.symm.trans hi'
  have := t.isLt; have := t'.isLt
  exact h (Fin.ext (by unfold srcRow at e; omega))

/-- nor write the same one. -/
theorem dstK_disjoint {v : Words} (hs : Small v) (hv : InB v) (t t' : Fin 128) (h : t ≠ t') : Disjoint (dstK v hv t) (dstK v hv t') := by
  rw [Finset.disjoint_left]
  intro i hi hi'
  rw [mem_dstK] at hi hi'
  refine h (Fin.ext ?_)
  rw [← owner_rowWord hs t, ← owner_rowWord hs t', ← hi, ← hi']

/-! ## What the output holds after the copies -/

variable (d : Dev nD)

/-- The update's rows patched over `out` where the positions `v` say. -/
def patched (v : Words) (lat : Buf (Elt F) (latLoc d)) (out : Buf (Elt F) (outLoc d)) : Buf (Elt F) (outLoc d) :=
  fun (x : S262144x128.Idx) =>
    if (rowWord (owner (x 0).val) (v (seqOf (ownerF (x 0))))).toNat = (x 0).val
      then lat (fun | ⟨0, _⟩ => (⟨srcRow (owner (x 0).val), by
                      have := owner_lt (x 0).isLt; show srcRow _ < 128; unfold srcRow; omega⟩ : Fin 128)
                    | ⟨1, _⟩ => (x 1 : Fin 128) : S128x128.Idx)
      else out x

/-- Where transfer `t` wrote, its own write is the patch; -/
theorem landed_eq {v : Words} (hs : Small v) (hv : InB v) (lat : Buf (Elt F) (latLoc d)) (out : Buf (Elt F) (outLoc d))
    (t : Fin 128) : ∀ i ∈ dstK v hv t, landed d v hv lat out t i = patched d v lat out i := by
  intro i hi
  have hr := mem_dstK.mp hi
  have ho : owner (i 0).val = t.val := by rw [hr]; exact owner_rowWord hs t
  have hoF : ownerF (i 0) = t := Fin.ext ho
  obtain ⟨x, -, rfl⟩ := Finset.mem_map.mp hi
  unfold landed patched
  rw [View.write_emb_of_mem _ _ (Finset.mem_univ x), if_pos (by rw [hoF, ho]; exact hr.symm)]
  rw [View.read_apply]
  show lat ((srcM t).view.emb x) = lat _
  congr 1
  funext a
  match a with
  | ⟨0, _⟩ =>
    refine Fin.ext ?_
    show srcRow t.val + 1 * (x 0).val = srcRow (owner _)
    rw [ho]
    have : (x 0).val < 1 := (x 0).isLt
    omega
  | ⟨1, _⟩ => rfl

/-- and where none did, the patch is what was there. -/
theorem patched_off {v : Words} (hv : InB v) (lat : Buf (Elt F) (latLoc d)) (out : Buf (Elt F) (outLoc d))
    (i : S262144x128.Idx) (hi : i ∉ Finset.univ.biUnion (dstK v hv)) : out i = patched d v lat out i := by
  unfold patched
  rw [if_neg]
  intro h
  exact hi (Finset.mem_biUnion.mpr ⟨ownerF (i 0), Finset.mem_univ _, mem_dstK.mpr h.symm⟩)

/-! ## The arrays cut into the rows and joined again -/

/-- A whole array is its pieces and what no piece has. -/
theorem pieces {ℓ : Loc nD τ sig} {T : Type} [Fintype T] [DecidableEq T] (J : T → Finset (Idx ℓ)) (hJ : ∀ t t', t ≠ t' → Disjoint (J t) (J t'))
    (q : PosShare TreeShare) (f : Buf (Elt F) ℓ) :
    (ℓ ↦{q} f : sProp (MM F)) ⊣⊢ iprop(bigSep Finset.univ (fun t => ℓ ↦[J t]{q} f) ∗ ℓ ↦[Finset.univ \ Finset.univ.biUnion J]{q} f) := by
  have h := pointsTo_split_subset (Ix := HIx 1) (Name := ℕ) (U := UU) (Lvl := ℕ) (ℓ := ℓ) (q := q) (f := f) (Finset.subset_univ (Finset.univ.biUnion J))
  rw [pointsTo_biUnion Finset.univ J (fun t _ t' _ e => hJ t t' e)] at h
  exact h

/-- The update and the output, cut into what the transfers take and what they leave. -/
theorem cut {v : Words} (hs : Small v) (hv : InB v) (c : Fin τ.nSC) (lat : Buf (Elt F) (latLoc d)) (out : Buf (Elt F) (outLoc d)) :
    iprop((latLoc d ↦{fullShare} lat) ∗ outLoc d ↦{fullShare} out)
      ⊢ (iprop(bigSep Finset.univ (rowIn d c v hv lat out)
        ∗ (latLoc d ↦[Finset.univ \ Finset.univ.biUnion srcK]{fullShare} lat)
        ∗ outLoc d ↦[Finset.univ \ Finset.univ.biUnion (dstK v hv)]{fullShare} out) : sProp (MM F)) := by
  have e : bigSep Finset.univ (rowIn d c v hv lat out)
      = iprop(bigSep Finset.univ (srcP d c lat) ∗ bigSep Finset.univ (dstP d c v hv out)) := bigSep_sep _ _ _
  rw [e]
  iintro ⟨Hl, Ho⟩
  icases ((pieces (ℓ := latLoc d) srcK srcK_disjoint fullShare lat).1) $$ Hl with ⟨Hl, Hl'⟩
  icases ((pieces (ℓ := outLoc d) (dstK v hv) (dstK_disjoint hs hv) fullShare out).1) $$ Ho with ⟨Ho, Ho'⟩
  isplitl [Hl Ho]
  · isplitl [Hl]; · iexact Hl
    iexact Ho
  isplitl [Hl'] <;> iassumption

/-- What the transfers bring back and what they left, joined: the update as it was, the output patched. -/
theorem join {v : Words} (hs : Small v) (hv : InB v) (c : Fin τ.nSC) (lat : Buf (Elt F) (latLoc d)) (out : Buf (Elt F) (outLoc d)) :
    iprop(bigSep Finset.univ (rowBack d c v hv lat out)
        ∗ (latLoc d ↦[Finset.univ \ Finset.univ.biUnion srcK]{fullShare} lat)
        ∗ outLoc d ↦[Finset.univ \ Finset.univ.biUnion (dstK v hv)]{fullShare} out)
      ⊢ (iprop((latLoc d ↦{fullShare} lat) ∗ outLoc d ↦{fullShare} patched d v lat out) : sProp (MM F)) := by
  have e : (fun t => dstP d c v hv (landed d v hv lat out t) t) = fun t => (outLoc d ↦[dstK v hv t]{fullShare} patched d v lat out : sProp (MM F)) :=
    funext fun t => pointsTo_congr (landed_eq d hs hv lat out t)
  have e' : (outLoc d ↦[Finset.univ \ Finset.univ.biUnion (dstK v hv)]{fullShare} out : sProp (MM F))
      = outLoc d ↦[Finset.univ \ Finset.univ.biUnion (dstK v hv)]{fullShare} patched d v lat out :=
    pointsTo_congr fun i hi => patched_off d hv lat out i (Finset.mem_sdiff.mp hi).2
  have e'' : bigSep Finset.univ (rowBack d c v hv lat out)
      = iprop(bigSep Finset.univ (fun t => dstP d c v hv (landed d v hv lat out t) t) ∗ bigSep Finset.univ (srcP d c lat)) := bigSep_sep _ _ _
  rw [e'', e, e']
  iintro ⟨⟨Ho, Hl⟩, Hl', Ho'⟩
  isplitl [Hl Hl']
  · iapply (pieces (ℓ := latLoc d) srcK srcK_disjoint fullShare lat).2
    isplitl [Hl]; · iexact Hl
    iexact Hl'
  · iapply (pieces (ℓ := outLoc d) (dstK v hv) (dstK_disjoint hs hv) fullShare (patched d v lat out)).2
    isplitl [Ho]; · iexact Ho
    iexact Ho'

end Cert.Proof
-- ==== Proof.Body.lean ====
/-
  The SparseCore kernel's body on its sequencer: the positions copied to scalar memory, 32 of them read and checked,
  then the 128 row copies issued and waited for. Held at its start: the positions, the update and the output; at its
  end: the same, the output patched.
-/
module

public import proofs.«01_k».proof.Proof.Patch

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-! ## The checks -/

/-- A row named by a constant plus a position lies in the output. -/
theorem off_in {lo : ℕ} {w : BitVec 32} (hlo : lo + 2048 ≤ 262144) (hw : w.toNat < 2048) :
    ∀ a, (![(Scalar.addi (BitVec.ofNat 32 lo) w).toNat, 0] : Fin 2 → ℕ) a + S1x128.size a ≤ S262144x128.size a := by
  intro a
  match a with
  | ⟨0, _⟩ =>
    show (Scalar.addi (BitVec.ofNat 32 lo) w).toNat + 1 ≤ 262144
    rw [addi_ofNat _ _ (by omega)]; omega
  | ⟨1, _⟩ => show 0 + 128 ≤ 128; omega

/-! ## The positions' words -/

/-- The word of sequence `b` among the positions. -/
def wordsOf {d : Dev nD} (pos : Buf (Elt F) (posLoc d)) : Words :=
  fun b => pos (fun | ⟨0, _⟩ => (⟨b.val, by have := b.isLt; show b.val < 24; omega⟩ : Fin 24) : S24.Idx)

section Run

variable (d : Dev nD) (c : Fin τ.nSC)

/-- The scalar memory's positions, as elements of it: the same words. -/
def smOf (pos : Buf (Elt F) (posLoc d)) : Buf (Elt F) (smW.view.loc (S d c)) := pos

/-- The copy of the positions fills the whole scalar buffer. -/
theorem sync_fills (pos : Buf (Elt F) (posLoc d)) (f : Buf (Elt F) (smW.view.loc (S d c))) :
    smW.view.write (Elt F) f (posW.view.read (Elt F) pos) Finset.univ = smOf d c pos :=
  funext fun x => View.write_emb_of_mem (v := smW.view) f (posW.view.read (Elt F) pos) (Finset.mem_univ x)

/-- What a load of one word reads. -/
theorem read_word (pos : Buf (Elt F) (posLoc d)) (b : Fin 8) (inb : ∀ a, (![b.val] : Fin 1 → ℕ) a + S1.size a ≤ S24.size a) :
    (smW.access (Rect.unit (s := S24) ![b.val] S1.size inb)).read (Elt F) (smOf d c pos) = fun _ => wordsOf pos b := by
  funext x
  show pos ((Rect.unit (s := S24) ![b.val] S1.size inb).emb x) = pos _
  congr 1
  funext a
  match a with
  | ⟨0, _⟩ =>
    refine Fin.ext ?_
    show b.val + 1 * (x 0).val = b.val
    have : (x 0).val < 1 := (x 0).isLt
    omega

variable [FloatOps F]

/-- What the copy of the positions runs over, apart from the scalar buffer; -/
def unsynced (pos : Buf (Elt F) (posLoc d)) (O : CellTallies nD τ sig (HIx 1)) (W : Waits sig (HIx 1)) : sProp (MM F) :=
  iprop((posLoc d ↦{fullShare} pos) ∗ semVal (S d c, .dma cc1_scoped0.sem) 0 ∗ owes (S d c) O W
    ∗ Transfers.MayWaits (S d c) (none : HIx 1) O)

/-- and what it leaves. -/
def synced (pos : Buf (Elt F) (posLoc d)) (O : CellTallies nD τ sig (HIx 1)) (W : Waits sig (HIx 1)) : sProp (MM F) :=
  iprop((posLoc d ↦{fullShare} pos) ∗ semVal (S d c, .dma cc1_scoped0.sem) 0
    ∗ owes (S d c) O (insert (SemLoc.dma cc1_scoped0.sem, none) W) ∗ Transfers.MayWaits (S d c) (none : HIx 1) O)

/-- The copy of the positions: the scalar buffer holds them. -/
theorem wp_sync {R : sProp (MM F)} {α : Type} (pos : Buf (Elt F) (posLoc d)) (O : CellTallies nD τ sig (HIx 1)) (W : Waits sig (HIx 1))
    {h₁ h₂ h₃ h₄ h₅} {k : PUnit → PUnit → PG F c α} {Q : α → sProp (MM F)}
    (h : iprop((smW.view.loc (S d c) ↦{fullShare} smOf d c pos) ∗ synced d c pos O W ∗ R)
      ⊢ wp frame (wpE (defs₀ (F := F)) 𝒱₀ (S d c) none) Set.univ (k ⟨⟩ ⟨⟩) Q) :
    iprop((∃ f, smW.view.loc (S d c) ↦{fullShare} f) ∗ unsynced d c pos O W ∗ R)
      ⊢ wp frame (wpE (defs₀ (F := F)) 𝒱₀ (S d c) none) Set.univ
        (.op (.enqueueDma posW (.here smW) (.dma cc1_scoped0.sem) h₁ h₂ h₃) fun u => .op (.waitDma2 cc1_scoped0.sem posW smW h₄ h₅) (k u)) Q := by
  unfold unsynced
  unfold synced at h
  have e : (posLoc d ↦{fullShare} pos : sProp (MM F)) = posW.view.loc (S d c) ↦[posW.view.set]{fullShare} pos := by
    rw [show posW.view.set = Finset.univ from View.set_whole _]
  rw [e]
  rw [e] at h
  iintro ⟨⟨%f, Hs⟩, ⟨Hp, Hv, HO, #Hmw⟩, HR⟩
  iapply (Transfers.wp_dmaLocal EC 𝒱₀ (S d c) none (src := posW) (dst := smW) (via := .same) (sm := .dma cc1_scoped0.sem)
    (none : HIx 1) smW.view.dmaCredit rfl (View.dmaCredit_pos _ (by decide)) (Finset.subset_univ _)) $$ [Hp Hs Hv]
  · isplitl [Hp]; · iexact Hp
    isplitl [Hs] <;> iassumption
  iintro HF
  iapply (Transfers.wp_waitLocalO EC 𝒱₀ (S d c) none (none : HIx 1) (O := O) (W := W) rfl) $$ [HF HO]
  · isplitl [HF]; · iexact HF
    isplitl [HO]; · iexact HO
    iapply (Transfers.MayWaits.elim _); iexact Hmw
  iintro ⟨⟨Hs, Hp⟩, Hv, HO⟩
  have e' : (smW.view.loc (S d c) ↦{fullShare} smW.view.write (Elt F) f ((ReadAs.same (Val := Elt F)).apply (posW.view.read (Elt F) pos)) Finset.univ)
      ⊢ (smW.view.loc (S d c) ↦{fullShare} smOf d c pos : sProp (MM F)) := Entails.of_eq (by rw [← sync_fills d c pos f])
  iapply h
  isplitl [Hs]; · iapply e' $$ Hs
  isplitr [HR]
  · isplitl [Hp]; · iexact Hp
    isplitl [Hv]; · iexact Hv
    isplitl [HO]; · iexact HO
    iexact Hmw
  iexact HR

/-- A load of a position: the run goes on with the word. -/
theorem wp_word {R : sProp (MM F)} {α : Type} (pos : Buf (Elt F) (posLoc d)) {b : ℕ} (hb : b < 8)
    {inb : ∀ a, (![b] : Fin 1 → ℕ) a + S1.size a ≤ S24.size a} {hl}
    {k : ((Rect.unit (s := S24) ![b] S1.size inb).shape.Idx → Elt F .i32) → PG F c α} {Q : α → sProp (MM F)}
    (h : iprop((smW.view.loc (S d c) ↦{fullShare} smOf d c pos) ∗ R)
      ⊢ wp frame (wpE (defs₀ (F := F)) 𝒱₀ (S d c) none) Set.univ (k fun _ => wordsOf pos ⟨b, hb⟩) Q) :
    iprop((smW.view.loc (S d c) ↦{fullShare} smOf d c pos) ∗ R)
      ⊢ wp frame (wpE (defs₀ (F := F)) 𝒱₀ (S d c) none) Set.univ (.op (.load smW (Rect.unit (s := S24) ![b] S1.size inb) hl) k) Q := by
  rw [← read_word d c pos ⟨b, hb⟩ inb] at h
  iintro ⟨Hs, HR⟩
  iapply (wp_load_rect 𝒱₀ (S d c) none Set.univ (m := smW) (r := Rect.unit (s := S24) ![b] S1.size inb) (k := k) (q := fullShare)
    (f := smOf d c pos) (Finset.subset_univ _)) $$ Hs
  iintro Hs
  iapply h
  isplitl [Hs] <;> iassumption

/-- A check that every position of the cache passes: the run goes on with it. -/
theorem wp_check {R : sProp (MM F)} {α : Type} {P : BitVec 32 → Prop} {w : BitVec 32} {dec : Decidable (P w)} {k : PLift (P w) → PG F c α}
    {Q : α → sProp (MM F)} (hP : ∀ w : BitVec 32, w.toNat < 2048 → P w) (hw : w.toNat < 2048)
    (h : R ⊢ wp frame (wpE (defs₀ (F := F)) 𝒱₀ (S d c) none) Set.univ (k ⟨hP w hw⟩) Q) :
    R ⊢ wp frame (wpE (defs₀ (F := F)) 𝒱₀ (S d c) none) Set.univ (.op (.assume (P w) dec) k) Q :=
  h.trans (wp_assume 𝒱₀ (S d c) none Set.univ (hP w hw))

end Run

section Whole

variable (d : Dev nD) (c : Fin (grid1.bound 0)) [FloatOps F]

/-- The body's program, as the launch runs it. -/
abbrev bodyP : PG F (c.castLE hcore1) PUnit :=
  cc1__ (F := F) (coordsS c) (Memref.whole main_v11_scs) (Memref.isWhole_whole _) (Memref.whole main_v9_scs) (Memref.isWhole_whole _)
    (Memref.whole main_v14_scs) (Memref.isWhole_whole _) (Memref.whole main_v14_scs) (Memref.isWhole_whole _) (Memref.whole cc1_scratch0) (Memref.isWhole_whole _)
    cc1_scratch1 cc1_scoped0

set_option maxRecDepth 100000 in set_option maxHeartbeats 4000000 in
/-- The body's program from its head: the positions' copy, then every load and check in turn, then the transfers. -/
theorem head {R : sProp (MM F)} (pos : Buf (Elt F) (posLoc d)) (hs : Small (wordsOf pos)) (O : CellTallies nD τ sig (HIx 1))
    (W : Waits sig (HIx 1)) (Q : PUnit → sProp (MM F))
    (h : iprop((smW.view.loc (seq d c) ↦{fullShare} smOf d _ pos) ∗ synced d (c.castLE hcore1) pos O W ∗ R)
      ⊢ wp frame (wpE (defs₀ (F := F)) 𝒱₀ (seq d c) none) Set.univ
        (issues _ (wordsOf pos) (inB_of_small hs) 128 0 (by decide) (waits _ (wordsOf pos) (inB_of_small hs) 128 0 (by decide) (.ret ⟨⟩))) Q) :
    iprop((∃ f, smW.view.loc (seq d c) ↦{fullShare} f) ∗ unsynced d (c.castLE hcore1) pos O W ∗ R)
      ⊢ wp frame (wpE (defs₀ (F := F)) 𝒱₀ (seq d c) none) Set.univ (bodyP (F := F) c) Q := by
  refine wp_sync d (c.castLE hcore1) pos O W ?_
  repeat
    refine wp_word d (c.castLE hcore1) pos (by decide) ?_
    refine wp_check d (c.castLE hcore1) ?_ (hs _) ?_
    · intro w hw
      repeat' apply And.intro
      all_goals
        intro r
        refine off_in (by have := r.isLt; omega) ?_
        try rw [andi_511]
        omega
  exact h

end Whole

end Cert.Proof
-- ==== Proof.Seq.lean ====
/-
  The SparseCore kernel's body in the launch's terms: what the sequencer is handed at the call and hands back.
-/
module

public import proofs.«01_k».proof.Proof.Body

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-- The three arrays of the call. -/
def three (d : Dev nD) (pos : Buf (Elt F) (posLoc d)) (lat : Buf (Elt F) (latLoc d)) (out : Buf (Elt F) (outLoc d)) : sProp (MM F) :=
  iprop((posLoc d ↦{fullShare} pos) ∗ (latLoc d ↦{fullShare} lat) ∗ outLoc d ↦{fullShare} out)

variable (d : Dev nD) (c : Fin (grid1.bound 0))

/-- The scalar buffer taken out of the sequencer's own buffers; -/
theorem bufs_eq : (SparseCore.Cfg.ownBufs (seq d c) : sProp (MM F))
    = iprop((∃ f, smW.view.loc (seq d c) ↦{fullShare} f)
      ∗ bigSep ((SparseCore.Cfg.ownRefs (Proc.scScalar (c.castLE hcore1))).erase ((Proc.scScalar (c.castLE hcore1)).devRef cc1_scratch0))
          fun b => iprop(∃ f, ((d, b) : Loc nD τ sig) ↦{fullShare} f)) := by
  unfold SparseCore.Cfg.ownBufs
  exact SparseCore.bigSep_erase' (SparseCore.Cfg.mem_ownRefs_of_owner (p := Proc.scScalar (c.castLE hcore1))
    (b := (Proc.scScalar (c.castLE hcore1)).devRef cc1_scratch0) rfl)

theorem scoped0_scoped : (SemLoc.dma cc1_scoped0.sem : SemLoc sig).isScoped .scScalar = true := by decide
theorem scratch1_scoped : (SemLoc.dma cc1_scratch1.sem : SemLoc sig).isScoped .scScalar = true := by decide
theorem scratch1_ne : cc1_scratch1.sem ≠ cc1_scoped0.sem := by decide

/-- and its two semaphores out of its own. -/
theorem sems_eq : (SparseCore.Cfg.ownSems0 (seq d c) : sProp (MM F))
    = iprop(semVal (seq d c, .dma cc1_scoped0.sem) 0 ∗ semVal (seq d c, .dma cc1_scratch1.sem) 0
      ∗ bigSep (((SparseCore.Cfg.ownCells (seq d c)).erase (seq d c, .dma cc1_scoped0.sem)).erase (seq d c, .dma cc1_scratch1.sem))
          fun g => semVal g 0) := by
  unfold SparseCore.Cfg.ownSems0
  rw [SparseCore.bigSep_erase' (SparseCore.Cfg.mem_ownCells (g := (seq d c, .dma cc1_scoped0.sem)) |>.mpr ⟨rfl, scoped0_scoped⟩),
    SparseCore.bigSep_erase' (Finset.mem_erase.mpr ⟨fun h => scratch1_ne (SemLoc.dma.inj (congrArg Prod.snd h)),
      SparseCore.Cfg.mem_ownCells (g := (seq d c, .dma cc1_scratch1.sem)) |>.mpr ⟨rfl, scratch1_scoped⟩⟩)]

variable [FloatOps F]

/-- The body over just what it touches: the scalar buffer, its two semaphores, and the three arrays. -/
theorem core (pos : Buf (Elt F) (posLoc d)) (hs : Small (wordsOf pos)) (lat : Buf (Elt F) (latLoc d)) (out : Buf (Elt F) (outLoc d))
    (O : CellTallies nD τ sig (HIx 1)) (W : Waits sig (HIx 1)) (Q : PUnit → sProp (MM F)) :
    iprop((∃ f, smW.view.loc (seq d c) ↦{fullShare} f) ∗ unsynced d (c.castLE hcore1) pos O W
        ∗ ((latLoc d ↦{fullShare} lat) ∗ (outLoc d ↦{fullShare} out) ∗ semVal (seq d c, .dma cc1_scratch1.sem) 0
          ∗ ((∃ f, smW.view.loc (seq d c) ↦{fullShare} f) ∗ semVal (seq d c, .dma cc1_scoped0.sem) 0 ∗ semVal (seq d c, .dma cc1_scratch1.sem) 0
              ∗ three d pos lat (patched d (wordsOf pos) lat out) ∗ (∃ W', ⌜∀ p ∈ W', p ∈ W ∨ p.2 = none⌝ ∗ owes (seq d c) O W') -∗ Q ⟨⟩)))
      ⊢ wp frame (wpE (defs₀ (F := F)) 𝒱₀ (seq d c) none) Set.univ (bodyP (F := F) c) Q := by
  refine head d c pos hs O W Q ?_
  unfold synced three
  iintro ⟨Hsm, ⟨Hp, Hv0, HO, #Hmw⟩, Hl, Ho, Hv1, Hk⟩
  imod (Transfers.batch_alloc' EC (c := seq d c) (sm := .dma cc1_scratch1.sem) (none : HIx 1) rowUnits
    (rowBack d (c.castLE hcore1) (wordsOf pos) (inB_of_small hs) lat out)) $$ Hv1 with HB
  icases (cut d hs (inB_of_small hs) (c.castLE hcore1) lat out) $$ [Hl Ho] with ⟨Hr, Hl, Ho⟩
  · isplitl [Hl] <;> iassumption
  iapply (wp_issues d (c.castLE hcore1) (wordsOf pos) (inB_of_small hs) lat out _ Q 128 0 _) $$ [Hr HB]
  · isplitl [Hr]
    · iapply (Entails.of_eq (Transfers.bigSep_pending_zero _)) $$ Hr
    · iexact HB
  iintro ⟨-, HB⟩
  iapply (wp_waits d (c.castLE hcore1) (wordsOf pos) (inB_of_small hs) lat out _ Q O 128 0 _
    (insert (SemLoc.dma cc1_scoped0.sem, none) W)) $$ [HB HO]
  · isplitl [HB]; · iapply (Entails.of_eq (by rw [Nat.zero_mul, Nat.zero_add])) $$ HB
    isplitl [HO]; · iexact HO
    iexact Hmw
  iintro ⟨HB, %W', %hW', HO⟩
  rw [wp_ret]
  ihave HB := (Entails.of_eq (show B d (c.castLE hcore1) (wordsOf pos) (inB_of_small hs) lat out 128 ((0 + 128) * rowUnits)
    = B d (c.castLE hcore1) (wordsOf pos) (inB_of_small hs) lat out 128 (rowUnits * 128) by rw [Nat.zero_add, Nat.mul_comm])) $$ HB
  imod (Transfers.batch_collect' EC (c := seq d c) rowUnits_pos) $$ HB with ⟨Hr, Hv1⟩
  icases (join d hs (inB_of_small hs) (c.castLE hcore1) lat out) $$ [Hr Hl Ho] with ⟨Hl, Ho⟩
  · isplitl [Hr]; · iexact Hr
    isplitl [Hl] <;> iassumption
  imodintro
  iapply Hk
  isplitl [Hsm]; · iexists _; iexact Hsm
  isplitl [Hv0]; · iexact Hv0
  isplitl [Hv1]; · iexact Hv1
  isplitl [Hp Hl Ho]
  · isplitl [Hp]; · iexact Hp
    isplitl [Hl] <;> iassumption
  iexists W'
  isplitr
  · ipureintro; intro p hp
    rcases hW' p hp with h | h
    · rcases Finset.mem_insert.mp h with rfl | h
      · exact .inr rfl
      · exact .inl h
    · exact .inr h
  · iexact HO

/-- The body, from what the launch hands it: the positions all name rows of the cache, and the output ends patched. -/
theorem body (pos : Buf (Elt F) (posLoc d)) (hs : Small (wordsOf pos)) (lat : Buf (Elt F) (latLoc d)) (out : Buf (Elt F) (outLoc d))
    (O : CellTallies nD τ sig (HIx 1)) (hO : ∀ g, O g none = 0) (W : Waits sig (HIx 1)) :
    iprop(levAts (K (F := F)).L (K (F := F)).lev ∗ emp ∗ three d pos lat out ∗ scopedBufs (seq d c) ∗ scopedSems0 (seq d c) ∗ owes (seq d c) O W)
      ⊢ wp frame (wpE (defs₀ (F := F)) 𝒱₀ (seq d c) none) Set.univ (bodyP (F := F) c)
          fun _ => iprop(three d pos lat (patched d (wordsOf pos) lat out) ∗ scopedBufs (seq d c) ∗ scopedSems0 (seq d c)
            ∗ ∃ W', ⌜∀ p ∈ W', p ∈ W ∨ p.2 = none⌝ ∗ owes (seq d c) O W') := by
  unfold three
  iintro ⟨#Hlv, -, ⟨Hp, Hl, Ho⟩, Hsb, Hss, HO⟩
  ihave Hsb' := ((K (F := F)).scopedBufs_S_elim (Val := Elt F) facts d (c.castLE hcore1)) $$ Hsb
  icases Hsb' with ⟨Hsb, Hvb⟩
  ihave Hss' := (SparseCore.Cfg.scopedSems0_S_elim (Val := Elt F) d (c.castLE hcore1)) $$ Hss
  icases Hss' with ⟨Hss, Hvs⟩
  ihave Hsb := (Entails.of_eq (bufs_eq (F := F) d c)) $$ Hsb
  ihave Hss := (Entails.of_eq (sems_eq (F := F) d c)) $$ Hss
  icases Hsb with ⟨Hsm, Hbr⟩
  icases Hss with ⟨Hv0, Hv1, Hsr⟩
  ihave Hmw := ((K (F := F)).mayWaits_none (thr := seq d c) hO) $$ Hlv
  iapply (core d c pos hs lat out O W _)
  isplitl [Hsm]; · iexact Hsm
  isplitl [Hp Hv0 HO Hmw]
  · unfold unsynced
    isplitl [Hp]; · iexact Hp
    isplitl [Hv0]; · iexact Hv0
    isplitl [HO] <;> iassumption
  isplitl [Hl]; · iexact Hl
  isplitl [Ho]; · iexact Ho
  isplitl [Hv1]; · iexact Hv1
  iintro ⟨Hsm, Hv0, Hv1, Ht, HO⟩
  unfold three
  isplitl [Ht]; · iexact Ht
  isplitl [Hsm Hbr Hvb]
  · iapply ((K (F := F)).scopedBufs_S_intro (Val := Elt F) facts d (c.castLE hcore1))
    isplitr [Hvb]
    · iapply (Entails.of_eq (bufs_eq (F := F) d c).symm)
      isplitl [Hsm] <;> iassumption
    · iexact Hvb
  isplitr [HO]
  · iapply (SparseCore.Cfg.scopedSems0_S_intro (Val := Elt F) d (c.castLE hcore1))
    isplitr [Hvs]
    · iapply (Entails.of_eq (sems_eq (F := F) d c).symm)
      isplitl [Hv0]; · iexact Hv0
      isplitl [Hv1] <;> iassumption
    · iexact Hvs
  iexact HO

end Cert.Proof
-- ==== Proof.Host.lean ====
/-
  @main's host operations, in the three lines the two kernel calls cut them into, and what each array the calls
  read holds when they run.
-/
module

public import proofs.«01_k».proof.Proof.Region
public import proofs.«01_k».proof.Proof.Seq

@[expose] public section

noncomputable section

namespace Cert.Proof

open Cert.KernelIdeal Cert.KernelIdeal.Gen

open Idealize.ShloMosaic
open Idealize.ShloMosaic.TcCoe
open Idealize.ShloMosaic.StableHlo (after)
open Idealize.SL Idealize.SL.RA Idealize.SL.BI Idealize.SL.Sem

variable {F : FTy → Type} [FloatOps F]

local notation "Op" => HloOp τ sig (Elt F)
local notation "Host" => Valuation τ sig (Elt F)

/-- Up to the TensorCore's pipeline: the caches as rows, the latest vectors stacked as rows, the positions padded. -/
def opsBefore : List Op :=
  [ StableHlo.reshape main_arg0 main_v0 (rfl : (.f32 : EltTy) = .f32) shapeCasts_S8x4x2048x128_S65536x128,
    StableHlo.reshape main_arg1 main_v1 (rfl : (.f32 : EltTy) = .f32) shapeCasts_S8x4x2048x128_S65536x128,
    StableHlo.reshape main_arg2 main_v2 (rfl : (.f32 : EltTy) = .f32) shapeCasts_S8x4x2048x128_S65536x128,
    StableHlo.reshape main_arg3 main_v3 (rfl : (.f32 : EltTy) = .f32) shapeCasts_S8x4x2048x128_S65536x128,
    StableHlo.unary main_arg4 main_v4 (broadcastInDim S1x8x4x1x128 ![1, 2, 3, 4] bcast_S8x4x1x128_S1x8x4x1x128_1_2_3_4 :
      (⟨S8x4x1x128, .f32⟩ : BufTy).Contents (Elt F) → (⟨S1x8x4x1x128, .f32⟩ : BufTy).Contents (Elt F)),
    StableHlo.unary main_arg5 main_v5 (broadcastInDim S1x8x4x1x128 ![1, 2, 3, 4] bcast_S8x4x1x128_S1x8x4x1x128_1_2_3_4 :
      (⟨S8x4x1x128, .f32⟩ : BufTy).Contents (Elt F) → (⟨S1x8x4x1x128, .f32⟩ : BufTy).Contents (Elt F)),
    StableHlo.unary main_arg6 main_v6 (broadcastInDim S1x8x4x1x128 ![1, 2, 3, 4] bcast_S8x4x1x128_S1x8x4x1x128_1_2_3_4 :
      (⟨S8x4x1x128, .f32⟩ : BufTy).Contents (Elt F) → (⟨S1x8x4x1x128, .f32⟩ : BufTy).Contents (Elt F)),
    StableHlo.unary main_arg7 main_v7 (broadcastInDim S1x8x4x1x128 ![1, 2, 3, 4] bcast_S8x4x1x128_S1x8x4x1x128_1_2_3_4 :
      (⟨S8x4x1x128, .f32⟩ : BufTy).Contents (Elt F) → (⟨S1x8x4x1x128, .f32⟩ : BufTy).Contents (Elt F)),
    StableHlo.nary ![main_v4, main_v5, main_v6, main_v7] main_v8
      (fun u => (concatenate S4x8x4x1x128 0
        [⟨S1x8x4x1x128, (u 0 : (⟨S1x8x4x1x128, .f32⟩ : BufTy).Contents (Elt F))⟩,
         ⟨S1x8x4x1x128, (u 1 : (⟨S1x8x4x1x128, .f32⟩ : BufTy).Contents (Elt F))⟩,
         ⟨S1x8x4x1x128, (u 2 : (⟨S1x8x4x1x128, .f32⟩ : BufTy).Contents (Elt F))⟩,
         ⟨S1x8x4x1x128, (u 3 : (⟨S1x8x4x1x128, .f32⟩ : BufTy).Contents (Elt F))⟩] concatenates_S1x8x4x1x128_S1x8x4x1x128_S1x8x4x1x128_S1x8x4x1x128_S4x8x4x1x128_d0 : (⟨S4x8x4x1x128, .f32⟩ : BufTy).Contents (Elt F))),
    StableHlo.reshape main_v8 main_v9 (rfl : (.f32 : EltTy) = .f32) shapeCasts_S4x8x4x1x128_S128x128,
    StableHlo.reshape main_arg8 main_v10 (rfl : (.i32 : EltTy) = .i32) shapeCasts_S8x1_S8,
    StableHlo.nullary main_c (constantI S_ 32 0#32),
    StableHlo.unary main_c main_call0_v0 id,
    StableHlo.binary main_v10 main_call0_v0 main_v11 (fun x v => pad S24 ![0] ![16] ![0] x v pads_S8_S24_0160 h_S_) ]

/-- Between the two calls: the stacked caches as rows, copied to the array the SparseCore patches in place. -/
def opsBetween : List Op :=
  [ StableHlo.reshape main_v12 main_v13 (rfl : (.f32 : EltTy) = .f32) shapeCasts_S4x65536x128_S262144x128,
    StableHlo.unary main_v13 main_v14 id ]

/-- After both: the patched rows as the result. -/
def opsAfter : List Op :=
  [ StableHlo.reshape main_v14 main_v15 (rfl : (.f32 : EltTy) = .f32) shapeCasts_S262144x128_S4x8x4x2048x128 ]

/-- @main is those three lines about its two calls. -/
theorem main_eq (d : Dev nD) : main (F := F) d
    = (StableHlo.seq opsBefore >>= fun _ => Prog.lift (.customCall (SparseCore.inner (Pipeline.entry 0)) ()) >>= fun _ =>
        StableHlo.seq opsBetween >>= fun _ => sc.run d 0 >>= fun _ => StableHlo.seq opsAfter >>= fun _ => pure ⟨⟩) := by
  unfold main fn_pad.body
  simp only [opsBefore, opsBetween, opsAfter, StableHlo.seq, bind_assoc, pure_bind]
  rfl

/-- Every operation of a line names TensorCore arrays alone, and leaves nothing undefined. -/
theorem before_ok : ∀ op ∈ opsBefore (F := F), op.bufs ⊆ Pipeline.ucRefs τ sig ∧ op.fresh = ∅ := by
  intro op h
  refine ⟨Pipeline.sub_ucRefs op ?_, ?_⟩ <;> revert op <;>
    simp only [opsBefore, List.forall_mem_cons, List.not_mem_nil, false_imp_iff, implies_true, StableHlo.reshape_bufs_sub,
      StableHlo.unary_bufs_sub, StableHlo.nary_bufs_sub, StableHlo.nullary_bufs_sub, StableHlo.binary_bufs_sub, and_true]
  exact ⟨rfl, rfl, rfl, rfl, rfl, rfl, rfl, rfl, rfl, rfl, rfl, rfl, rfl, rfl⟩

theorem between_ok : ∀ op ∈ opsBetween (F := F), op.bufs ⊆ Pipeline.ucRefs τ sig ∧ op.fresh = ∅ := by
  intro op h
  refine ⟨Pipeline.sub_ucRefs op ?_, ?_⟩ <;> revert op <;>
    simp only [opsBetween, List.forall_mem_cons, List.not_mem_nil, false_imp_iff, implies_true, StableHlo.reshape_bufs_sub,
      StableHlo.unary_bufs_sub, and_true]
  exact ⟨rfl, rfl⟩

theorem after_ok : ∀ op ∈ opsAfter (F := F), op.bufs ⊆ Pipeline.ucRefs τ sig ∧ op.fresh = ∅ := by
  intro op h
  refine ⟨Pipeline.sub_ucRefs op ?_, ?_⟩ <;> revert op <;>
    simp only [opsAfter, List.forall_mem_cons, List.not_mem_nil, false_imp_iff, implies_true, StableHlo.reshape_bufs_sub, and_true]
  exact rfl

end Cert.Proof

end
-- ==== Proof.Launch.lean ====
/-
  The whole program's run: the host lines, the TensorCore's pipeline as a region, the SparseCore's call with its three
  arrays handed over and back, and every array of the TensorCore known at the end.
-/
module

public import proofs.«01_k».proof.Proof.Host

@[expose] public section

noncomputable section

namespace Cert.Proof

open Cert.KernelIdeal Cert.KernelIdeal.Gen

open Idealize.ShloMosaic
open Idealize.ShloMosaic.TcCoe
open Idealize.ShloMosaic.StableHlo (after held)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "Host" => Valuation τ sig (Elt F)

/-- The arrays of device memory that the calls change or read, as device buffers. -/
abbrev stackedB : DevRef τ sig := Proc.devRef .tc main_v12
abbrev posB : DevRef τ sig := Proc.devRef .tc main_v11
abbrev latB : DevRef τ sig := Proc.devRef .tc main_v9
abbrev outB : DevRef τ sig := Proc.devRef .tc main_v14

variable (m : (ℓ : Loc nD τ sig) → Buf (Elt F) ℓ) (ρ : Dev nD → PrngReg)

/-! ## What the arrays hold, step by step -/

/-- Before the pipeline. -/
def atCopy (d : Dev nD) : Host := after opsBefore fun b => m (d, b)
/-- After it: the caches stacked. -/
def stacked (d : Dev nD) : Host := Function.update (atCopy m d) stackedB (stack (caches (fun c b => atCopy m c (Proc.devRef .tc b)) d))
/-- At the SparseCore's call. -/
def atPatch (d : Dev nD) : Host := after opsBetween (stacked m d)
/-- The positions, the latest rows and the rows to patch, as the call finds them. -/
def posAt (d : Dev nD) : Buf (Elt F) (posLoc d) := atPatch m d posB
def latAt (d : Dev nD) : Buf (Elt F) (latLoc d) := atPatch m d latB
def outAt (d : Dev nD) : Buf (Elt F) (outLoc d) := atPatch m d outB
/-- The rows, patched. -/
def outThen (d : Dev nD) : Buf (Elt F) (outLoc d) := patched d (wordsOf (posAt m d)) (latAt m d) (outAt m d)
/-- After the call. -/
def patchedV (d : Dev nD) : Host := Function.update (atPatch m d) outB (outThen m d)
/-- At the end. -/
def atEnd (d : Dev nD) : Host := after opsAfter (patchedV m d)

/-! ## The SparseCore's part -/

/-- What the call hands the sequencer and takes back. -/
def P : (K (F := F)).Pay (nD := nD) (Val := Elt F) (Name := ℕ) (U := UU) where
  st := fun _ d _ => three d (posAt m d) (latAt m d) (outAt m d)
  dn := fun _ d _ => three d (posAt m d) (latAt m d) (outThen m d)
  go := fun _ _ _ _ => iprop(emp)
  td := fun _ _ _ _ => iprop(emp)
  x := fun _ _ => iprop(emp)

instance three_storable (d : Dev nD) (pos : Buf (Elt F) (posLoc d)) (lat : Buf (Elt F) (latLoc d)) (out : Buf (Elt F) (outLoc d)) :
    BI.Storable (upEmb : UEmb _ (MM F)) (three d pos lat out) := by
  unfold three; infer_instance

instance P_storable : (P (F := F) m).IsStorable where
  st _ d _ := by unfold P; infer_instance
  dn _ d _ := by unfold P; infer_instance
  go _ _ _ _ := by unfold P; infer_instance
  td _ _ _ _ := by unfold P; infer_instance

theorem defs₀_seq (c : Fin τ.nSC) :
    defs₀ (F := F) (.scScalar c) 1 () = SparseCore.onCore hcore1 (fun c => bodyP (F := F) c) ⟨⟩ c := rfl

omit [FloatOps F] in
/-- The body may name the call among its waits. -/
theorem with_call {thr : Thread nD τ} {A B C : sProp (MM F)} {O : CellTallies nD τ sig (HIx 1)} {W : Waits sig (HIx 1)} {R : HIx 1 → Prop} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ R p.2⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A body proved on each SparseCore of the grid is one proved for the launch's SparseCore number. -/
theorem onCore_intro (B : (c : Fin (grid1.bound 0)) → PG F (c.castLE hcore1) PUnit) (d : Dev nD) (c : Fin ((K (F := F)).nCore 0))
    (I : sProp (MM F)) (Pre Post : Thread nD τ → sProp (MM F))
    (h : ∀ c : Fin (grid1.bound 0), iprop(I ∗ Pre (seq d c)) ⊢ wp frame (wpE (defs₀ (F := F)) 𝒱₀ (seq d c) none) Set.univ (B c) fun _ => Post (seq d c)) :
    iprop(I ∗ Pre (SparseCore.S d ((K (F := F)).core 0 c)))
      ⊢ wp frame (wpE (defs₀ (F := F)) 𝒱₀ (SparseCore.S d ((K (F := F)).core 0 c)) none) Set.univ
          (SparseCore.onCore hcore1 B ⟨⟩ ((K (F := F)).core 0 c)) fun _ => Post (SparseCore.S d ((K (F := F)).core 0 c)) := by
  have hc : ((K (F := F)).core 0 c).val < grid1.bound 0 := c.isLt
  simp only [SparseCore.onCore, hc, ↓reduceDIte]
  exact h ⟨_, hc⟩

/-- The sequencer's obligation at the call, the positions naming rows of the cache. -/
theorem scalarObl (hs : ∀ d, Small (wordsOf (posAt m d))) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 1 ())) _
  refine BI.Entails.trans ?_ (Pipeline.wp_liftProg (D (F := F)) (Pipeline.defs_kernel pcfgs defs₀) 𝒱₀ _ Set.univ none _ _)
  rw [defs₀_seq]
  exact onCore_intro (fun c => bodyP (F := F) c) d c (levAts (K (F := F)).L (K (F := F)).lev)
    (fun t => iprop(emp ∗ three d (posAt m d) (latAt m d) (outAt m d) ∗ scopedBufs t ∗ scopedSems0 t ∗ owes t O W))
    (fun t => iprop(three d (posAt m d) (latAt m d) (outThen m d) ∗ scopedBufs t ∗ scopedSems0 t
      ∗ ∃ W', ⌜∀ p ∈ W', p ∈ W ∨ p.2 = none ∨ SparseCore.Cfg.Blocks.blk (Q := 1) (N := 1) 0 p.2⌝ ∗ owes t O W'))
    fun c => (body d c (posAt m d) (hs d) (latAt m d) (outAt m d) O hO W).trans (wp_mono frame _ _ fun _ => with_call)

/-! ## The ghost state at launch -/

/-- The handshakes' rounds and the pipeline's. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What @main takes of it: the pipeline's cells and tokens. -/
abbrev G (d : Dev nD) : sProp (MM F) :=
  iprop(Pipeline.cellsGhost (Pipeline.pin (pcfgs (F := F)) adm) EP 0 d ∗ Pipeline.toksInit (Pipeline.pin (pcfgs (F := F)) adm) EP 0 d)

omit [FloatOps F] in
theorem all_emp {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have hpair : ∀ a : UP, (BI.own ((embR : Emb (UP × Counters) (MM F)) (a, 1)) : sProp (MM F)) = BI.own ((EP : Emb UP (MM F)) a) := fun _ => rfl
  have hx : (bigSep Finset.univ fun thr : Thread nD τ => bigSep Finset.univ fun q : Fin 1 => (P m).x q thr) = (iprop(emp) : sProp (MM F)) := by
    show (bigSep Finset.univ fun _ : Thread nD τ => bigSep Finset.univ fun _ : Fin 1 => (iprop(emp) : sProp (MM F))) = _
    rw [bigSep_congr fun _ _ => all_emp _, all_emp]
  have h1 : ∀ f : Fin 1 → sProp (MM F), bigSep Finset.univ f = f 0 := fun f => by
    rw [show (Finset.univ : Finset (Fin 1)) = {0} from rfl, bigSep_singleton]
  rw [hx]
  unfold u₀
  iintro Hu
  ihave H := (ownU_pair _ _) $$ Hu
  icases H with ⟨HH, HP⟩
  ihave HP := (Entails.of_eq (hpair _)) $$ HP
  imod (Pipeline.fund_ghost (Pipeline.pin (pcfgs (F := F)) adm) EP cellOf_inj) $$ HP with ⟨Hc, Ht⟩
  imodintro
  isplitl [HH]; · iexact HH
  isplitl [Hc Ht]
  · unfold G; rw [bigSep_sep']
    simp only [h1]
    isplitl [Hc] <;> iassumption
  · iempintro

/-! ## @main -/

/-- A TensorCore owes the calls to come, each at its own index: none at the kernels'. -/
theorem Otc_none (d : Dev nD) (g : GSem nD τ sig) : (K (F := F)).Otc (N := 1) d 0 g none = 0 := by
  unfold SparseCore.Cfg.Otc
  simp only [Finset.sum_apply, Finsupp.finset_sum_apply]
  refine Finset.sum_eq_zero fun q _ => ?_
  split
  · simp only [Finset.sum_apply, Finsupp.finset_sum_apply]
    exact Finset.sum_eq_zero fun c _ => by rw [tallyAt_apply, if_neg fun e => nomatch e.2]
  · rfl

variable (b : ℕ)

/-- The debts of a TensorCore up to its first call. -/
abbrev owed (d : Dev nD) : sProp (MM F) := debts (F := F) (fun d => (K (F := F)).Otc d 0) b d

/-- The pipeline's call in the launched program, from contents `V` to contents `V'`. -/
theorem wp_copy (V V' : Vals F) (hout : ∀ c, V' c main_v12 = stack (caches V c)) (hne : ∀ c (r : Ref sig .tc), r ≠ main_v12 → V' c r = V c r)
    (d : Dev nD) (Φ : PUnit → sProp (MM F)) :
    iprop((iprop(boundary (SparseCore.T d) ∗ (unscopedBufs d (V' d) ∗ owed b d)) -∗ Φ ⟨⟩) ∗ boundary (SparseCore.T d) ∗ (unscopedBufs d (V d) ∗ owed b d)
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Φ := by
  have hr : iprop((iprop(boundary (SparseCore.T d) ∗ (unscopedBufs d (V' d) ∗ owed b d))
          -∗ wp frame (wpE (D (F := F)) 𝒱 (SparseCore.T d) none) Set.univ (Prog.ret ⟨⟩) Φ)
        ∗ boundary (SparseCore.T d) ∗ (unscopedBufs d (V d) ∗ owed b d) ∗ levAts (K (F := F)).L (K (F := F)).lev ∗ G d)
      ⊢ wp frame (wpE (D (F := F)) 𝒱 (SparseCore.T d) none) Set.univ (.op (.customCall (Pipeline.entry 0) ()) .ret) Φ :=
    Pipeline.RegionSeg.wp (pcfgs (F := F)) adm (pdats V (fun d => (K (F := F)).Otc d 0) b) (none : HIx 1)
    cellOf_inj EP (defs₀ (F := F)) 𝒱₀ (K (F := F)).L (K (F := F)).lev
    (reg V V' (fun d => (K (F := F)).Otc d 0) Otc_none b hout hne) d none (fun _ h => nomatch h) .ret Φ
  have hl := (K (F := F)).wp_liftProg (D (F := F)) 𝒱 (SparseCore.T d) Set.univ none
    (.op (.customCall (Pipeline.entry 0) ()) .ret) Φ
  iintro ⟨Hk, Hb, Hpre, Hl, Hc, Ht⟩
  iapply hl
  iapply hr
  isplitl [Hk]
  · iintro ⟨Hb, Hpost⟩
    rw [wp_ret]; imodintro
    iapply Hk
    isplitl [Hb] <;> iassumption
  isplitl [Hb]; · iexact Hb
  isplitl [Hpre]; · iexact Hpre
  isplitl [Hl]; · iexact Hl
  isplitl [Hc] <;> iassumption

end Cert.Proof

end
-- ==== Proof.Run.lean ====
/-
  @main's run on every device, and the launch theorem at it: every array of the TensorCore ends at its value, every
  counter at zero.
-/
module

public import proofs.«01_k».proof.Proof.Launch
public import Idealize.ShloMosaic.Lib.Pipeline.Launch

@[expose] public section

noncomputable section

namespace Cert.Proof

open Cert.KernelIdeal Cert.KernelIdeal.Gen

open Idealize.ShloMosaic
open Idealize.ShloMosaic.TcCoe
open Idealize.ShloMosaic.StableHlo (after held)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "Host" => Valuation τ sig (Elt F)

/-- The TensorCore's arrays in device memory. -/
abbrev arrs : Finset (DevRef τ sig) := Pipeline.ucRefs τ sig
/-- Those but the SparseCore call's three. -/
def others : Finset (DevRef τ sig) := ((arrs.erase posB).erase latB).erase outB

theorem mem_arrs (r : Ref sig .tc) (h : (Proc.devRef (τ := τ) .tc r).isScoped = false) : (Proc.devRef .tc r : DevRef τ sig) ∈ arrs :=
  Finset.mem_filter.mpr ⟨StableHlo.devRef_mem_tcRefs r, by rw [h]; exact Bool.false_ne_true⟩

theorem arrs_eq : arrs = insert posB (insert latB (insert outB others)) := by
  unfold others
  rw [Finset.insert_erase, Finset.insert_erase, Finset.insert_erase (mem_arrs main_v11 rfl)]
  · exact Finset.mem_erase.mpr ⟨by decide, mem_arrs main_v9 rfl⟩
  · exact Finset.mem_erase.mpr ⟨by decide, Finset.mem_erase.mpr ⟨by decide, mem_arrs main_v14 rfl⟩⟩

theorem out_not_other : outB ∉ others := Finset.notMem_erase _ _

/-- Every array held is the call's three and the others. -/
theorem held_arrs (d : Dev nD) (W : Host) :
    (held (SparseCore.T d) arrs W : sProp (MM F)) = iprop(three d (W posB) (W latB) (W outB) ∗ held (SparseCore.T d) others W) := by
  have hl : latB ∉ insert outB others := by
    simp only [others, Finset.mem_insert, Finset.mem_erase, not_or, not_and]; exact ⟨by decide, fun _ h => absurd rfl h⟩
  have hp : posB ∉ insert latB (insert outB others) := by
    simp only [others, Finset.mem_insert, Finset.mem_erase, not_or, not_and]; exact ⟨by decide, by decide, fun _ _ h => absurd rfl h⟩
  unfold held three
  rw [arrs_eq, SparseCore.bigSep_insert' hp, SparseCore.bigSep_insert' hl, SparseCore.bigSep_insert' out_not_other]
  have hassoc : ∀ A B C E : sProp (MM F), iprop(A ∗ B ∗ C ∗ E) = iprop((A ∗ B ∗ C) ∗ E) := fun A B C E => by
    have h1 : iprop(A ∗ B ∗ C ∗ E) ⊢ iprop((A ∗ B ∗ C) ∗ E) := by
      iintro ⟨HA, HB, HC, HE⟩
      isplitr [HE]
      · isplitl [HA]; · iexact HA
        isplitl [HB] <;> iassumption
      · iexact HE
    have h2 : iprop((A ∗ B ∗ C) ∗ E) ⊢ iprop(A ∗ B ∗ C ∗ E) := by
      iintro ⟨⟨HA, HB, HC⟩, HE⟩
      isplitl [HA]; · iexact HA
      isplitl [HB]; · iexact HB
      isplitl [HC] <;> iassumption
    exact equiv_iff.mp ⟨h1, h2⟩
  exact hassoc _ _ _ _

variable [FloatOps F]
variable (m : (ℓ : Loc nD τ sig) → Buf (Elt F) ℓ) (ρ : Dev nD → PrngReg)

/-- Before the call: its three arrays at their values. -/
theorem held_atPatch (d : Dev nD) : (held (SparseCore.T d) arrs (atPatch m d) : sProp (MM F))
    = iprop(three d (posAt m d) (latAt m d) (outAt m d) ∗ held (SparseCore.T d) others (atPatch m d)) := held_arrs d _

/-- After it: the output patched, the others kept. -/
theorem held_patchedV (d : Dev nD) : (held (SparseCore.T d) arrs (patchedV m d) : sProp (MM F))
    = iprop(three d (posAt m d) (latAt m d) (outThen m d) ∗ held (SparseCore.T d) others (atPatch m d)) := by
  rw [held_arrs]
  unfold patchedV
  rw [Function.update_self, Function.update_of_ne (show posB ≠ outB by decide), Function.update_of_ne (show latB ≠ outB by decide)]
  have hrest : ∀ W f, (held (SparseCore.T d) others (Function.update W outB f) : sProp (MM F)) = held (SparseCore.T d) others W := fun W f => by
    unfold held
    exact bigSep_congr fun b hb => congrArg _ (Function.update_of_ne (fun e : b = outB => out_not_other (e ▸ hb)) f W)
  rw [hrest]
  rfl

/-- What @main leaves: every array at its final value. -/
abbrev FIN (d : Dev nD) : sProp (MM F) := held (SparseCore.T d) arrs (atEnd m d)

theorem st_eq (d : Dev nD) : (bigSep Finset.univ fun c : Fin ((K (F := F)).nCore 0) => (P m).st 0 d c) = three d (posAt m d) (latAt m d) (outAt m d) := by
  show (bigSep (Finset.univ : Finset (Fin 1)) fun _ => three d (posAt m d) (latAt m d) (outAt m d)) = _
  rw [show (Finset.univ : Finset (Fin 1)) = {0} from rfl, bigSep_singleton]
theorem dn_eq (d : Dev nD) : (bigSep Finset.univ fun c : Fin ((K (F := F)).nCore 0) => (P m).dn 0 d c) = three d (posAt m d) (latAt m d) (outThen m d) := by
  show (bigSep (Finset.univ : Finset (Fin 1)) fun _ => three d (posAt m d) (latAt m d) (outThen m d)) = _
  rw [show (Finset.univ : Finset (Fin 1)) = {0} from rfl, bigSep_singleton]

theorem ne_devRef {r r' : Ref sig .tc} (h : r ≠ r') : (Proc.devRef .tc r : DevRef τ sig) ≠ Proc.devRef .tc r' :=
  fun e => h (Proc.devRef_injective _ e)

/-- @main on device `d`: the first line, the pipeline's region, the second line, the call, the last line. -/
theorem hmain (κ : GSem nD τ sig → ℕ) (d : Dev nD) :
    iprop((K (F := F)).ctx EH (P m) κ (K (F := F)).lev ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  have hin : (unscopedBufs d (fun b => m ((SparseCore.T d).loc b)) : sProp (MM F)) = held (SparseCore.T d) arrs (fun b => m (d, b)) :=
    Pipeline.unscopedBufs_held d (fun b => m (d, b))
  have hV : ∀ W : Host, (held (SparseCore.T d) arrs W : sProp (MM F)) = unscopedBufs d (fun b => W (Proc.devRef .tc b)) :=
    fun W => (Pipeline.unscopedBufs_held d W).symm
  obtain ⟨b, R, hst⟩ : ∃ (b : ℕ) (R : sProp (MM F)), (K (F := F)).tcSt EH d 0 = iprop(owed b d ∗ R) := ⟨_, _, rfl⟩
  unfold SparseCore.Cfg.tcRes SparseCore.Cfg.tcEnd
  rw [hin, main_eq]
  iintro ⟨#Hctx, Hst, ⟨Hb, Hheld, Hts, -⟩, HG⟩
  ihave #Hlev := (SparseCore.Cfg.ctx_levAts (K := K (F := F)) (EH := EH) (P := P m) κ) $$ Hctx
  iapply (StableHlo.wp_seq 𝒱 none Set.univ d arrs _ opsBefore (fun op h => (before_ok op h).1) (fun op h => (before_ok op h).2) (fun b => m (d, b))) $$ [Hb Hheld]
  · isplitl [Hb] <;> iassumption
  iintro ⟨Hb, Hheld⟩
  ihave Hub := (show held d.tc arrs (after opsBefore fun b => m (d, b)) ⊢ (unscopedBufs d (fun b => atCopy m d (Proc.devRef .tc b)) : sProp (MM F)) from
    Entails.of_eq (hV (atCopy m d))) $$ Hheld
  ihave Hst := (Entails.of_eq hst) $$ Hst
  icases Hst with ⟨Ho, HR⟩
  rw [wp_bind]
  iapply (wp_copy b (fun c r => atCopy m c (Proc.devRef .tc r)) (fun c r => stacked m c (Proc.devRef .tc r))
    (fun c => Function.update_self ..) (fun c r h => Function.update_of_ne (ne_devRef h) ..) d)
  isplitr [Hb Hub Ho HG]
  · iintro ⟨Hb, Hub, Ho⟩
    ihave Hheld := (Entails.of_eq (hV (stacked m d)).symm) $$ Hub
    iapply (StableHlo.wp_seq 𝒱 none Set.univ d arrs _ opsBetween (fun op h => (between_ok op h).1) (fun op h => (between_ok op h).2) (stacked m d)) $$ [Hb Hheld]
    · isplitl [Hb] <;> iassumption
    iintro ⟨Hb, Hheld⟩
    ihave Hh := (show held d.tc arrs (after opsBetween (stacked m d))
        ⊢ (iprop(three d (posAt m d) (latAt m d) (outAt m d) ∗ held (SparseCore.T d) others (atPatch m d)) : sProp (MM F)) from
      Entails.of_eq (held_atPatch m d)) $$ Hheld
    icases Hh with ⟨H3, Hrest⟩
    rw [wp_bind]
    iapply ((K (F := F)).wp_run (D (F := F)) 𝒱 (EH := EH) (P := P m) κ d 0) $$ [Ho HR H3 Hb Hrest Hts]
    isplitr; · iexact Hctx
    isplitl [Ho HR]
    · iapply (Entails.of_eq hst.symm)
      isplitl [Ho] <;> iassumption
    isplitl [H3]
    · rw [st_eq]; iexact H3
    iintro ⟨Hst, H3⟩
    ihave H3 := (Entails.of_eq (dn_eq m d)) $$ H3
    ihave Hheld := (Entails.of_eq (held_patchedV m d).symm) $$ [H3 Hrest]
    · isplitl [H3] <;> iassumption
    iapply (StableHlo.wp_seq 𝒱 none Set.univ d arrs _ opsAfter (fun op h => (after_ok op h).1) (fun op h => (after_ok op h).2) (patchedV m d)) $$ [Hb Hheld]
    · isplitl [Hb] <;> iassumption
    iintro ⟨Hb, Hheld⟩
    rw [wp_pure]; imodintro
    isplitl [Hst]; · iexact Hst
    isplitr [Hb Hts]
    · iapply (show held d.tc arrs (after opsAfter (patchedV m d)) ⊢ FIN m d from .rfl) $$ Hheld
    isplitl [Hb] <;> iassumption
  isplitl [Hb]; · iexact Hb
  isplitl [Hub Ho]
  · isplitl [Hub] <;> iassumption
  isplitr; · iexact Hlev
  iexact HG

/-- What the claims read: the memory holds every array's final value. -/
def fq (d : Dev nD) (s' : Phys nD τ sig (Elt F)) : Prop := ∀ b ∈ arrs, s'.mem.mem (d, b) = atEnd m d b

theorem hfin (d : Dev nD) (s' : Phys nD τ sig (Elt F)) : iprop(FIN m d ∗ SI s') ⊢ (⌜fq m d s'⌝ : sProp (MM F)) :=
  (pointsTo_read_all arrs (fun b => (d, b)) (fun b => atEnd m d b) s').trans sep_elim_left

/-- The whole launch: if the padded positions name rows of the cache, every array of a TensorCore ends at `atEnd`. -/
theorem run_main [∀ e, Nonempty (Elt F e)] (hs : ∀ d, Small (wordsOf (posAt m d))) :
    θ_run (Cert.KernelIdeal.defs (F := F)) (Cert.KernelIdeal.threads (F := F)) ⟨m, fun _ => 0, ρ⟩
      fun r => (∀ d : Dev nD, ∀ b ∈ arrs, r.2.mem (d, b) = atEnd m d b) ∧ r.2.sem = fun _ => 0 :=
  SparseCore.Cfg.θ_run_sc_quiescent (K := K (F := F)) (D := D (F := F)) (𝒱 := 𝒱) (EH := EH) (P := P m) (A := ∅) facts v₀
    (fun q _ => match q with | 0 => scalarObl m hs)
    (fun q hq => match q with | 0 => nomatch hq)
    (fun q hq => match q with | 0 => nomatch hq)
    m ρ main (fun d => G (F := F) d) (FIN m) (u₀ (F := F)) (sep_elim_left.trans (hu₀ m)) (hmain m ρ) (fq m) (hfin m) _ (fun _ h hz => ⟨h, hz⟩)

end Cert.Proof

end
-- ==== Proof.Want.lean ====
/-
  The value both programs end with: each cache with one row of every sequence replaced by the latest vectors, and the
  reference's composed term read to it.
-/
module

public import proofs.«01_k».proof.Proof.Gen.ReferenceIdeal
public import proofs.«01_k».proof.Proof.Patch
public import Idealize.ShloMosaic.Lib.Pipeline.Value
public import Idealize.ShloMosaic.Lib.Routing.OpsSet
public import Idealize.ShloMosaic.Lib.Routing.OpsPair
public import Idealize.ShloMosaic.Lib.ValueIdxCore
public import Idealize.ShloMosaic.Lib.WordCmp

@[expose] public section

noncomputable section

namespace Cert.Proof

open Idealize.ShloMosaic Idealize.ShloMosaic.ValueIdx

section Spec
open Cert.ReferenceIdeal

variable {F : FTy → Type} [FloatOps F]

/-- One cache afterwards: sequence `b`'s row `q b` of every head is the latest vector, every other row as it was. -/
def putOne (x : Vec F S8x4x2048x128 .f32) (l : Vec F S8x4x1x128 .f32) (q : Fin 8 → ℕ) : Vec F S8x4x2048x128 .f32 :=
  fun i => if (i 2).val = q (i 0) then l (ix4 (i 0) (i 1) 0 (i 3)) else x i

/-- The four caches afterwards, one above another. The first two caches take the latest vectors at the position
    itself; the last two, ring buffers of 512 rows, at the position modulo 512. -/
def want (x : Fin 4 → Vec F S8x4x2048x128 .f32) (l : Fin 4 → Vec F S8x4x1x128 .f32) (p : IVec S8x1 32) :
    Vec F S4x8x4x2048x128 .f32 :=
  fun i => putOne (x (i 0)) (l (i 0)) (fun b => slot (i 0).val (p (ix2 b 0)).toNat) (ix4 (i 1) (i 2) (i 3) (i 4))

end Spec

/-! ## The reference's positions -/

section Words

/-- A position that is not negative is not wrapped. -/
theorem wrapped_eq (x y : BitVec 32) (h : x.toNat < 2048) : Scalar.select (IntOp.cmpi .slt x 0#32) y x = x := by
  rw [WordCmp.cmpi_slt_zero, WordCmp.select_decide, if_neg (by omega)]

/-- The reference's remainder of one position by 512, as it is written: the sign's correction included. -/
def ringWord (p : BitVec 32) : BitVec 32 :=
  Scalar.select
    (IntOp.andi (IntOp.cmpi .ne (IntOp.cmpi .slt (IntOp.remsi .host p 512#32) 0#32) (IntOp.cmpi .slt 512#32 0#32))
      (IntOp.cmpi .ne (IntOp.remsi .host p 512#32) 0#32))
    (IntOp.addi (IntOp.remsi .host p 512#32) 512#32) (IntOp.remsi .host p 512#32)

theorem remsi_eq (p : BitVec 32) (h : p.toNat < 2048) : (IntOp.remsi .host p 512#32).toNat = p.toNat % 512 := by
  have hc : ¬ IntOp.SDivCorner p 512#32 := by
    unfold IntOp.SDivCorner
    rintro (h' | ⟨-, h'⟩) <;> revert h' <;> decide
  have hm : p.msb = false := by rw [BitVec.msb_eq_decide]; exact decide_eq_false (by omega)
  unfold IntOp.remsi
  rw [if_neg hc, BitVec.srem_eq, hm, (by decide : (512#32 : BitVec 32).msb = false)]
  exact BitVec.toNat_umod

/-- For a position of the cache it is the plain remainder. -/
theorem ringWord_toNat (p : BitVec 32) (h : p.toNat < 2048) : (ringWord p).toNat = p.toNat % 512 := by
  have hr := remsi_eq p h
  have hz : IntOp.cmpi .slt (IntOp.remsi .host p 512#32) 0#32 = 0#1 := by
    rw [WordCmp.cmpi_slt_zero, decide_eq_false (by omega)]; rfl
  unfold ringWord
  rw [hz, (by decide : IntOp.cmpi .ne (0#1 : BitVec 1) (IntOp.cmpi .slt 512#32 0#32) = 0#1),
    (by intro b; revert b; decide : ∀ b : BitVec 1, IntOp.andi 0#1 b = 0#1), WordCmp.select_zero]
  exact hr

end Words

/-! ## The reference's arrays -/

section Ref
open Cert.ReferenceIdeal Cert.ReferenceIdeal.Gen

variable {F : FTy → Type} [FloatOps F]

/-- The scalar `n` on every sequence. -/
abbrev every {w : ℕ} (n : BitVec w) : IVec S8x1 w := broadcastInDim S8x1 ![] bcast_S_S8x1 (constantI S_ w n)

/-- The sequences' numbers. -/
abbrev seqs : IVec S8x1 32 := broadcastInDim S8x1 ![0] bcast_S8_S8x1_0 (iotaInDim S8 32 0)

/-- The row each sequence's vectors go to, as pairs of a sequence and a position. -/
def pairs (p : IVec S8x1 32) : IVec S8x1x2 32 :=
  concatenate S8x1x2 2
    [⟨S8x1x1, broadcastInDim S8x1x1 ![0, 1] bcast_S8x1_S8x1x1_0_1 (select (cmpi .slt seqs (every 0#32)) (addi seqs (every 8#32)) seqs)⟩,
     ⟨S8x1x1, broadcastInDim S8x1x1 ![0, 1] bcast_S8x1_S8x1x1_0_1 (select (cmpi .slt p (every 0#32)) (addi p (every 2048#32)) p)⟩]
    concatenates_S8x1x1_S8x1x1_S8x1x2_d2

/-- The positions modulo 512, as the reference writes them. -/
def ring (p : IVec S8x1 32) : IVec S8x1 32 :=
  let n : IVec S_ 32 := select (cmpi .eq (id (constantI S_ 32 512#32)) (constantI S_ 32 0#32)) (constantI S_ 32 1#32) (id (constantI S_ 32 512#32))
  let r : IVec S8x1 32 := Host.remsi p (broadcastInDim S8x1 ![] bcast_S_S8x1 n)
  select (andi (cmpi .ne (cmpi .slt r (every 0#32)) (broadcastInDim S8x1 ![] bcast_S_S8x1 (cmpi .slt n (constantI S_ 32 0#32)))) (cmpi .ne r (every 0#32)))
    (addi r (broadcastInDim S8x1 ![] bcast_S_S8x1 n)) r

/-- One cache with its latest vectors scattered into it. -/
def scat (x : Vec F S8x4x2048x128 .f32) (l : Vec F S8x4x1x128 .f32) (p : IVec S8x1 32) : Vec F S8x4x2048x128 .f32 :=
  Host.scatter scatter_S8x4x2048x128_S8x1x2_S8x1x4x128_23_02_02_2 (fun _ b => b) x (pairs p)
    (transpose S8x1x4x128 [0, 2, 1, 3] l transposes_S8x4x1x128_S8x1x4x128_0_2_1_3)

/-- The reference's result, of its arguments. -/
def refOut (x : Fin 4 → Vec F S8x4x2048x128 .f32) (l : Fin 4 → Vec F S8x4x1x128 .f32) (p : IVec S8x1 32) :
    Vec F S4x8x4x2048x128 .f32 :=
  concatenate S4x8x4x2048x128 0
    [⟨S1x8x4x2048x128, broadcastInDim S1x8x4x2048x128 ![1, 2, 3, 4] bcast_S8x4x2048x128_S1x8x4x2048x128_1_2_3_4 (scat (x 0) (l 0) p)⟩,
     ⟨S1x8x4x2048x128, broadcastInDim S1x8x4x2048x128 ![1, 2, 3, 4] bcast_S8x4x2048x128_S1x8x4x2048x128_1_2_3_4 (scat (x 1) (l 1) p)⟩,
     ⟨S1x8x4x2048x128, broadcastInDim S1x8x4x2048x128 ![1, 2, 3, 4] bcast_S8x4x2048x128_S1x8x4x2048x128_1_2_3_4 (scat (x 2) (l 2) (ring p))⟩,
     ⟨S1x8x4x2048x128, broadcastInDim S1x8x4x2048x128 ![1, 2, 3, 4] bcast_S8x4x2048x128_S1x8x4x2048x128_1_2_3_4 (scat (x 3) (l 3) (ring p))⟩]
    concatenates_S1x8x4x2048x128_S1x8x4x2048x128_S1x8x4x2048x128_S1x8x4x2048x128_S4x8x4x2048x128_d0

theorem ring_apply (p : IVec S8x1 32) (i : S8x1.Idx) : ring p i = ringWord (p i) := rfl

/-- The pairs: sequence `b`, at its position. -/
theorem pairs_seq (p : IVec S8x1 32) (b : Fin 8) : pairs p (ix3 b 0 0) = BitVec.ofNat 32 b.val := by
  unfold pairs
  refine (concatenate_apply_piece (t := S8x1x2) 2 _ _ _ 0 (by show 0 < 2; decide) S8x1x1 _ rfl rfl 0 rfl (ix3 b 0 0) ?_ rfl).trans ?_
  · intro a _
    match a with
    | ⟨0, _⟩ => rfl
    | ⟨1, _⟩ => rfl
    | ⟨2, _⟩ => rfl
  · refine (broadcastInDim_apply _ _ _ _ (ix2 b 0) fun a => ?_).trans ?_
    · match a with
      | ⟨0, _⟩ => rfl
      | ⟨1, _⟩ => rfl
    · exact wrapped_eq _ _ (by show (BitVec.ofNat 32 b.val).toNat < 2048; rw [BitVec.toNat_ofNat]; omega)

theorem pairs_pos (p : IVec S8x1 32) (b : Fin 8) (h : (p (ix2 b 0)).toNat < 2048) : pairs p (ix3 b 0 1) = p (ix2 b 0) := by
  unfold pairs
  refine (concatenate_apply_piece (t := S8x1x2) 2 _ _ _ 1 (by show 1 < 2; decide) S8x1x1 _ rfl rfl 1 rfl (ix3 b 0 0) ?_ rfl).trans ?_
  · intro a ha
    match a, ha with
    | ⟨0, _⟩, _ => rfl
    | ⟨1, _⟩, _ => rfl
    | ⟨2, _⟩, ha => exact absurd rfl ha
  · refine (broadcastInDim_apply _ _ _ _ (ix2 b 0) fun a => ?_).trans ?_
    · match a with
      | ⟨0, _⟩ => rfl
      | ⟨1, _⟩ => rfl
    · exact wrapped_eq _ _ h

/-- Where an update lands: sequence and head its own, its column its own, the row its sequence's position. -/
theorem lands (p : IVec S8x1 32) (hp : ∀ b, (p (ix2 b 0)).toNat < 2048) (k : S8x1x4x128.Idx) (i : S8x4x2048x128.Idx) :
    scatter_S8x4x2048x128_S8x1x2_S8x1x4x128_23_02_02_2.resultIdx? k (pairs p) = some i
      ↔ (k 0).val = (i 0).val ∧ (k 2).val = (i 1).val ∧ (p (ix2 (k 0) 0)).toNat = (i 2).val ∧ (k 3).val = (i 3).val := by
  have h0 : scatter_S8x4x2048x128_S8x1x2_S8x1x4x128_23_02_02_2.start k (pairs p) 0 = ((k 0).val : ℤ) := by
    refine (show _ = (pairs p (ix3 (k 0) 0 0)).toInt from congrArg (fun j => (pairs p j).toInt) (funext fun a => Fin.ext ?_)).trans ?_
    · match a with
      | ⟨0, _⟩ => rfl
      | ⟨1, _⟩ => exact Nat.lt_one_iff.1 (k 1).isLt
      | ⟨2, _⟩ => rfl
    · have hk : (k 0).val < 8 := (k 0).isLt
      have hn : (BitVec.ofNat 32 (k 0).val).toNat = (k 0).val := by rw [BitVec.toNat_ofNat]; omega
      refine (congrArg BitVec.toInt (pairs_seq p (k 0))).trans ?_
      rw [BitVec.toInt_eq_toNat_of_lt (by rw [hn]; omega), hn]
  have h2 : scatter_S8x4x2048x128_S8x1x2_S8x1x4x128_23_02_02_2.start k (pairs p) 2 = ((p (ix2 (k 0) 0)).toNat : ℤ) := by
    have hk : (p (ix2 (k 0) 0)).toNat < 2048 := hp (k 0)
    refine (show _ = (pairs p (ix3 (k 0) 0 1)).toInt from congrArg (fun j => (pairs p j).toInt) (funext fun a => Fin.ext ?_)).trans ?_
    · match a with
      | ⟨0, _⟩ => rfl
      | ⟨1, _⟩ => exact Nat.lt_one_iff.1 (k 1).isLt
      | ⟨2, _⟩ => rfl
    · exact (congrArg BitVec.toInt (pairs_pos p (k 0) hk)).trans (BitVec.toInt_eq_toNat_of_lt (by omega))
  have h1 : scatter_S8x4x2048x128_S8x1x2_S8x1x4x128_23_02_02_2.start k (pairs p) 1 = 0 := rfl
  have h3 : scatter_S8x4x2048x128_S8x1x2_S8x1x4x128_23_02_02_2.start k (pairs p) 3 = 0 := rfl
  have w0 : scatter_S8x4x2048x128_S8x1x2_S8x1x4x128_23_02_02_2.window k 0 = 0 := rfl
  have w1 : scatter_S8x4x2048x128_S8x1x2_S8x1x4x128_23_02_02_2.window k 1 = (k 2).val := rfl
  have w2 : scatter_S8x4x2048x128_S8x1x2_S8x1x4x128_23_02_02_2.window k 2 = 0 := rfl
  have w3 : scatter_S8x4x2048x128_S8x1x2_S8x1x4x128_23_02_02_2.window k 3 = (k 3).val := rfl
  rw [Routing.resultIdx?_eq_some]
  constructor
  · intro h
    have e0 := h 0; have e1 := h 1; have e2 := h 2; have e3 := h 3
    rw [h0, w0] at e0; rw [h1, w1] at e1; rw [h2, w2] at e2; rw [h3, w3] at e3
    refine ⟨?_, ?_, ?_, ?_⟩ <;> omega
  · rintro ⟨e0, e1, e2, e3⟩ a
    match a with
    | ⟨0, _⟩ => exact (congrArg₂ (fun (u : ℤ) (v : ℕ) => u + (v : ℤ)) h0 w0).trans (show ((k 0).val : ℤ) + (((0 : ℕ) : ℕ) : ℤ) = ((i 0).val : ℤ) by omega)
    | ⟨1, _⟩ => exact (congrArg₂ (fun (u : ℤ) (v : ℕ) => u + (v : ℤ)) h1 w1).trans (show (0 : ℤ) + (((k 2).val : ℕ) : ℤ) = ((i 1).val : ℤ) by omega)
    | ⟨2, _⟩ => exact (congrArg₂ (fun (u : ℤ) (v : ℕ) => u + (v : ℤ)) h2 w2).trans (show ((p (ix2 (k 0) 0)).toNat : ℤ) + (((0 : ℕ) : ℕ) : ℤ) = ((i 2).val : ℤ) by omega)
    | ⟨3, _⟩ => exact (congrArg₂ (fun (u : ℤ) (v : ℕ) => u + (v : ℤ)) h3 w3).trans (show (0 : ℤ) + (((k 3).val : ℕ) : ℤ) = ((i 3).val : ℤ) by omega)

/-- One scattered cache is the cache with each sequence's row replaced. -/
theorem scat_eq (x : Vec F S8x4x2048x128 .f32) (l : Vec F S8x4x1x128 .f32) (p : IVec S8x1 32) (hp : ∀ b, (p (ix2 b 0)).toNat < 2048) :
    scat x l p = putOne x l fun b => (p (ix2 b 0)).toNat := by
  funext i
  unfold scat putOne
  have hl : ∀ k : S8x1x4x128.Idx, (k 0).val = (i 0).val → (k 2).val = (i 1).val → (k 3).val = (i 3).val →
      transpose S8x1x4x128 [0, 2, 1, 3] l transposes_S8x4x1x128_S8x1x4x128_0_2_1_3 k = l (ix4 (i 0) (i 1) 0 (i 3)) := by
    intro k e0 e1 e3
    refine transpose_apply _ _ _ _ _ fun a => ?_
    match a with
    | ⟨0, _⟩ => exact e0.symm
    | ⟨1, _⟩ => exact (Nat.lt_one_iff.1 (k 1).isLt).symm
    | ⟨2, _⟩ => exact e1.symm
    | ⟨3, _⟩ => exact e3.symm
  by_cases h : (i 2).val = (p (ix2 (i 0) 0)).toNat
  · rw [if_pos h]
    refine Routing.scatter_set_hit _ _ _ _ i _ (fun k hk => ?_) (ix4 (i 0) 0 (i 1) (i 3)) ((lands p hp _ i).2 ⟨rfl, rfl, h.symm, rfl⟩)
    obtain ⟨e0, e1, -, e3⟩ := (lands p hp k i).1 hk
    exact hl k e0 e1 e3
  · rw [if_neg h]
    refine Routing.scatter_set_miss _ _ _ _ i fun k hk => h ?_
    obtain ⟨e0, -, e2, -⟩ := (lands p hp k i).1 hk
    have e : k 0 = i 0 := Fin.ext e0
    rw [← e2]
    exact congrArg (fun b => (p (ix2 b 0)).toNat) e

/-- A cache laid under the four's own axis, read. -/
theorem lay_apply (y : Vec F S8x4x2048x128 .f32) (a : Fin 1) (b : Fin 8) (h : Fin 4) (s : Fin 2048) (j : Fin 128) :
    broadcastInDim S1x8x4x2048x128 ![1, 2, 3, 4] bcast_S8x4x2048x128_S1x8x4x2048x128_1_2_3_4 y (ix5 a b h s j) = y (ix4 b h s j) := by
  refine broadcastInDim_apply _ _ _ _ _ fun e => ?_
  match e with
  | ⟨0, _⟩ => rfl
  | ⟨1, _⟩ => rfl
  | ⟨2, _⟩ => rfl
  | ⟨3, _⟩ => rfl

/-- What holds of four things by number holds of the one numbered `c`. -/
theorem of_four {α : Type} {P : Fin 4 → α → Prop} {a₀ a₁ a₂ a₃ : α} (h₀ : P 0 a₀) (h₁ : P 1 a₁) (h₂ : P 2 a₂) (h₃ : P 3 a₃) :
    ∀ c : Fin 4, P c (![a₀, a₁, a₂, a₃] c)
  | ⟨0, _⟩ => h₀
  | ⟨1, _⟩ => h₁
  | ⟨2, _⟩ => h₂
  | ⟨3, _⟩ => h₃

/-- Four caches laid one above another, read at one of them. -/
theorem stacked_apply (y₀ y₁ y₂ y₃ : Vec F S8x4x2048x128 .f32) (c : Fin 4) (b : Fin 8) (h : Fin 4) (s : Fin 2048) (j : Fin 128) :
    concatenate S4x8x4x2048x128 0
      [⟨S1x8x4x2048x128, broadcastInDim S1x8x4x2048x128 ![1, 2, 3, 4] bcast_S8x4x2048x128_S1x8x4x2048x128_1_2_3_4 y₀⟩,
       ⟨S1x8x4x2048x128, broadcastInDim S1x8x4x2048x128 ![1, 2, 3, 4] bcast_S8x4x2048x128_S1x8x4x2048x128_1_2_3_4 y₁⟩,
       ⟨S1x8x4x2048x128, broadcastInDim S1x8x4x2048x128 ![1, 2, 3, 4] bcast_S8x4x2048x128_S1x8x4x2048x128_1_2_3_4 y₂⟩,
       ⟨S1x8x4x2048x128, broadcastInDim S1x8x4x2048x128 ![1, 2, 3, 4] bcast_S8x4x2048x128_S1x8x4x2048x128_1_2_3_4 y₃⟩]
      concatenates_S1x8x4x2048x128_S1x8x4x2048x128_S1x8x4x2048x128_S1x8x4x2048x128_S4x8x4x2048x128_d0 (ix5 c b h s j)
      = (![y₀, y₁, y₂, y₃] : Fin 4 → Vec F S8x4x2048x128 .f32) c (ix4 b h s j) := by
  have off : ∀ a : Fin S1x8x4x2048x128.rank, a.cast (rfl : S1x8x4x2048x128.rank = S4x8x4x2048x128.rank) ≠ 0 →
      ((ix5 0 b h s j : S1x8x4x2048x128.Idx) a).val = ((ix5 c b h s j : S4x8x4x2048x128.Idx) (a.cast rfl)).val := by
    intro a ha
    match a, ha with
    | ⟨0, _⟩, ha => exact absurd rfl ha
    | ⟨1, _⟩, _ => rfl
    | ⟨2, _⟩, _ => rfl
    | ⟨3, _⟩, _ => rfl
    | ⟨4, _⟩, _ => rfl
  match c with
  | ⟨0, _⟩ =>
    exact (concatenate_apply_piece (t := S4x8x4x2048x128) 0 _ _ _ 0 (by show 0 < 4; decide) S1x8x4x2048x128 _ rfl rfl 0 rfl (ix5 0 b h s j) off rfl).trans (lay_apply ..)
  | ⟨1, _⟩ =>
    exact (concatenate_apply_piece (t := S4x8x4x2048x128) 0 _ _ _ 1 (by show 1 < 4; decide) S1x8x4x2048x128 _ rfl rfl 1 rfl (ix5 0 b h s j) off rfl).trans (lay_apply ..)
  | ⟨2, _⟩ =>
    exact (concatenate_apply_piece (t := S4x8x4x2048x128) 0 _ _ _ 2 (by show 2 < 4; decide) S1x8x4x2048x128 _ rfl rfl 2 rfl (ix5 0 b h s j) off rfl).trans (lay_apply ..)
  | ⟨3, _⟩ =>
    exact (concatenate_apply_piece (t := S4x8x4x2048x128) 0 _ _ _ 3 (by show 3 < 4; decide) S1x8x4x2048x128 _ rfl rfl 3 rfl (ix5 0 b h s j) off rfl).trans (lay_apply ..)

/-- The specification's row of a sequence in the first two caches, and in the last two. -/
theorem slots_low (p : IVec S8x1 32) (c : ℕ) (h : c % 4 < 2) :
    (fun b : Fin 8 => slot c (p (ix2 b 0)).toNat) = fun b => (p (ix2 b 0)).toNat := funext fun _ => if_pos h

theorem slots_high (p : IVec S8x1 32) (c : ℕ) (h : ¬ c % 4 < 2) (hp : ∀ b, (p (ix2 b 0)).toNat < 2048) :
    (fun b : Fin 8 => slot c (p (ix2 b 0)).toNat) = fun b => (ring p (ix2 b 0)).toNat :=
  funext fun b => (if_neg h).trans (ringWord_toNat _ (hp b)).symm

/-- Each of the reference's four scattered caches is the specification's. -/
theorem scats_eq (x : Fin 4 → Vec F S8x4x2048x128 .f32) (l : Fin 4 → Vec F S8x4x1x128 .f32) (p : IVec S8x1 32)
    (hp : ∀ b, (p (ix2 b 0)).toNat < 2048) (c : Fin 4) :
    (![scat (x 0) (l 0) p, scat (x 1) (l 1) p, scat (x 2) (l 2) (ring p), scat (x 3) (l 3) (ring p)] : Fin 4 → Vec F S8x4x2048x128 .f32) c
      = putOne (x c) (l c) fun b => slot c.val (p (ix2 b 0)).toNat := by
  have hr : ∀ b, (ring p (ix2 b 0)).toNat < 2048 := fun b => by
    rw [show (ring p (ix2 b 0)).toNat = _ from ringWord_toNat _ (hp b)]; omega
  refine of_four (P := fun c y => y = putOne (x c) (l c) fun b => slot c.val (p (ix2 b 0)).toNat) ?_ ?_ ?_ ?_ c
  · rw [slots_low p _ (by decide), scat_eq _ _ _ hp]
  · rw [slots_low p _ (by decide), scat_eq _ _ _ hp]
  · rw [slots_high p _ (by decide) hp, scat_eq _ _ _ hr]
  · rw [slots_high p _ (by decide) hp, scat_eq _ _ _ hr]

/-- The reference's result is the four caches with the latest vectors put in their places. -/
theorem refOut_eq (x : Fin 4 → Vec F S8x4x2048x128 .f32) (l : Fin 4 → Vec F S8x4x1x128 .f32) (p : IVec S8x1 32)
    (hp : ∀ b, (p (ix2 b 0)).toNat < 2048) : refOut x l p = want x l p := by
  funext i
  rw [eq_ix5 i]
  refine (stacked_apply (scat (x 0) (l 0) p) (scat (x 1) (l 1) p) (scat (x 2) (l 2) (ring p)) (scat (x 3) (l 3) (ring p)) _ _ _ _ _).trans ?_
  exact congrFun (scats_eq x l p hp (i 0)) _

end Ref

end Cert.Proof

end
-- ==== Proof.Values.lean ====
/-
  What the kernel's arrays hold, read down to its arguments: the rows the SparseCore patches, the latest vectors it
  takes them from, the positions it reads, and the result.
-/
module

public import proofs.«01_k».proof.Proof.Run
public import proofs.«01_k».proof.Proof.Want
public import Idealize.ShloMosaic.Lib.KernelVsHost

@[expose] public section

noncomputable section

namespace Cert.Proof

open Cert.KernelIdeal Cert.KernelIdeal.Gen
open Idealize.ShloMosaic Idealize.ShloMosaic.ValueIdx
open Idealize.ShloMosaic.TcCoe
open Idealize.ShloMosaic.StableHlo

variable {F : FTy → Type} [FloatOps F]
variable (m : (ℓ : Loc nD τ sig) → Buf (Elt F) ℓ) (d : Dev nD)

/-- The arguments: the four caches, the four arrays of latest vectors, the positions. -/
def cachesIn : Fin 4 → Vec F S8x4x2048x128 .f32 :=
  ![m (d, Proc.devRef .tc main_arg0), m (d, Proc.devRef .tc main_arg1), m (d, Proc.devRef .tc main_arg2), m (d, Proc.devRef .tc main_arg3)]
def latestIn : Fin 4 → Vec F S8x4x1x128 .f32 :=
  ![m (d, Proc.devRef .tc main_arg4), m (d, Proc.devRef .tc main_arg5), m (d, Proc.devRef .tc main_arg6), m (d, Proc.devRef .tc main_arg7)]
def positionsIn : IVec S8x1 32 := m (d, Proc.devRef .tc main_arg8)

/-! ## One array at a time -/

/-- An array that only the lines up to the pipeline write holds the same at the SparseCore's call. -/
theorem atPatch_of_before (r : Ref sig .tc) (h12 : r ≠ main_v12) (h13 : r ≠ main_v13) (h14 : r ≠ main_v14) :
    atPatch m d (Proc.devRef .tc r) = atCopy m d (Proc.devRef .tc r) := by
  unfold atPatch stacked opsBetween
  rw [after_cons, after_cons, after_nil, unary_result_ne _ _ _ _ _ _ h14, reshape_result_ne _ _ _ _ _ _ _ h13,
    Function.update_of_ne (ne_devRef h12)]

/-- An argument is what it was, at the end. -/
theorem atEnd_of_before (r : Ref sig .tc) (h12 : r ≠ main_v12) (h13 : r ≠ main_v13) (h14 : r ≠ main_v14) (h15 : r ≠ main_v15) :
    atEnd m d (Proc.devRef .tc r) = atCopy m d (Proc.devRef .tc r) := by
  unfold atEnd patchedV opsAfter
  rw [after_cons, after_nil, reshape_result_ne _ _ _ _ _ _ _ h15, Function.update_of_ne (ne_devRef h14), atPatch_of_before m d r h12 h13 h14]

/-- The positions, padded; the latest vectors as rows; the four caches as rows, as the lines leave them. -/
theorem posAt_eq : posAt m d = pad S24 ![0] ![16] ![0] (shapeCast S8 (positionsIn m d) shapeCasts_S8x1_S8) (constantI S_ 32 0#32)
    pads_S8_S24_0160 h_S_ := by
  refine (atPatch_of_before m d main_v11 (by decide) (by decide) (by decide)).trans ?_
  unfold atCopy opsBefore
  after_results
  rfl

theorem latAt_eq : latAt m d = shapeCast S128x128 (concatenate S4x8x4x1x128 0
      [⟨S1x8x4x1x128, broadcastInDim S1x8x4x1x128 ![1, 2, 3, 4] bcast_S8x4x1x128_S1x8x4x1x128_1_2_3_4 (latestIn m d 0)⟩,
       ⟨S1x8x4x1x128, broadcastInDim S1x8x4x1x128 ![1, 2, 3, 4] bcast_S8x4x1x128_S1x8x4x1x128_1_2_3_4 (latestIn m d 1)⟩,
       ⟨S1x8x4x1x128, broadcastInDim S1x8x4x1x128 ![1, 2, 3, 4] bcast_S8x4x1x128_S1x8x4x1x128_1_2_3_4 (latestIn m d 2)⟩,
       ⟨S1x8x4x1x128, broadcastInDim S1x8x4x1x128 ![1, 2, 3, 4] bcast_S8x4x1x128_S1x8x4x1x128_1_2_3_4 (latestIn m d 3)⟩]
      concatenates_S1x8x4x1x128_S1x8x4x1x128_S1x8x4x1x128_S1x8x4x1x128_S4x8x4x1x128_d0) shapeCasts_S4x8x4x1x128_S128x128 := by
  refine (atPatch_of_before m d main_v9 (by decide) (by decide) (by decide)).trans ?_
  unfold atCopy opsBefore
  after_results
  rfl

/-- A cache as rows, as the pipeline finds it. -/
theorem rows_eq (c : Fin 4) :
    caches (fun c b => atCopy m c (Proc.devRef .tc b)) d c = shapeCast S65536x128 (cachesIn m d c) shapeCasts_S8x4x2048x128_S65536x128 := by
  match c with
  | ⟨0, _⟩ => show atCopy m d (Proc.devRef .tc main_v0) = _; unfold atCopy opsBefore; after_results; rfl
  | ⟨1, _⟩ => show atCopy m d (Proc.devRef .tc main_v1) = _; unfold atCopy opsBefore; after_results; rfl
  | ⟨2, _⟩ => show atCopy m d (Proc.devRef .tc main_v2) = _; unfold atCopy opsBefore; after_results; rfl
  | ⟨3, _⟩ => show atCopy m d (Proc.devRef .tc main_v3) = _; unfold atCopy opsBefore; after_results; rfl

theorem outAt_eq : outAt m d = shapeCast S262144x128 (stack (caches (fun c b => atCopy m c (Proc.devRef .tc b)) d)) shapeCasts_S4x65536x128_S262144x128 := by
  unfold outAt atPatch opsBetween
  after_results
  unfold stacked
  rw [Function.update_self]
  rfl

theorem atEnd_eq : atEnd m d (Proc.devRef .tc main_v15) = shapeCast S4x8x4x2048x128 (outThen m d) shapeCasts_S262144x128_S4x8x4x2048x128 := by
  unfold atEnd opsAfter
  after_results
  unfold patchedV
  rw [Function.update_self]
  rfl

/-! ## Read at an entry -/

/-- The row of the stacked caches that holds row `s` of cache `c`, sequence `b`, head `h`. -/
abbrev rowAt (c : Fin 4) (b : Fin 8) (h : Fin 4) (s : Fin 2048) : Fin 262144 :=
  ⟨c.val * 65536 + (b.val * 4 + h.val) * 2048 + s.val, by omega⟩

/-- The row of the update that holds the latest vector of cache `c`, sequence `b`, head `h`. -/
abbrev newAt (c : Fin 4) (b : Fin 8) (h : Fin 4) : Fin 128 := ⟨c.val * 32 + b.val * 4 + h.val, by omega⟩

theorem wordsOf_apply (b : Fin 8) : wordsOf (posAt m d) b = positionsIn m d (ix2 b 0) := by
  unfold wordsOf
  rw [posAt_eq]
  refine (pad_apply_of_inside _ _ _ _ _ _ _ _ (ix1 b) fun a => ?_).trans (shapeCast_apply _ _ _ (ix2 b 0) ?_)
  · match a with
    | ⟨0, _⟩ => show b.val = 0 + b.val * (0 + 1); omega
  · rw [Shape.rowMajor_val_two, Shape.rowMajor_val_one]
    show b.val * 1 + 0 = b.val
    omega

theorem layNew_apply (y : Vec F S8x4x1x128 .f32) (a : Fin 1) (b : Fin 8) (h : Fin 4) (s : Fin 1) (j : Fin 128) :
    broadcastInDim S1x8x4x1x128 ![1, 2, 3, 4] bcast_S8x4x1x128_S1x8x4x1x128_1_2_3_4 y (ix5 a b h s j) = y (ix4 b h 0 j) := by
  refine broadcastInDim_apply _ _ _ _ _ fun e => ?_
  match e with
  | ⟨0, _⟩ => rfl
  | ⟨1, _⟩ => rfl
  | ⟨2, _⟩ => rfl
  | ⟨3, _⟩ => rfl

/-- Four arrays of latest vectors laid one above another, read at one of them. -/
theorem stackedNew_apply (y : Fin 4 → Vec F S8x4x1x128 .f32) (c : Fin 4) (b : Fin 8) (h : Fin 4) (s : Fin 1) (j : Fin 128) :
    concatenate S4x8x4x1x128 0
      [⟨S1x8x4x1x128, broadcastInDim S1x8x4x1x128 ![1, 2, 3, 4] bcast_S8x4x1x128_S1x8x4x1x128_1_2_3_4 (y 0)⟩,
       ⟨S1x8x4x1x128, broadcastInDim S1x8x4x1x128 ![1, 2, 3, 4] bcast_S8x4x1x128_S1x8x4x1x128_1_2_3_4 (y 1)⟩,
       ⟨S1x8x4x1x128, broadcastInDim S1x8x4x1x128 ![1, 2, 3, 4] bcast_S8x4x1x128_S1x8x4x1x128_1_2_3_4 (y 2)⟩,
       ⟨S1x8x4x1x128, broadcastInDim S1x8x4x1x128 ![1, 2, 3, 4] bcast_S8x4x1x128_S1x8x4x1x128_1_2_3_4 (y 3)⟩]
      concatenates_S1x8x4x1x128_S1x8x4x1x128_S1x8x4x1x128_S1x8x4x1x128_S4x8x4x1x128_d0 (ix5 c b h s j) = y c (ix4 b h 0 j) := by
  have off : ∀ a : Fin S1x8x4x1x128.rank, a.cast (rfl : S1x8x4x1x128.rank = S4x8x4x1x128.rank) ≠ 0 →
      ((ix5 0 b h s j : S1x8x4x1x128.Idx) a).val = ((ix5 c b h s j : S4x8x4x1x128.Idx) (a.cast rfl)).val := by
    intro a ha
    match a, ha with
    | ⟨0, _⟩, ha => exact absurd rfl ha
    | ⟨1, _⟩, _ => rfl
    | ⟨2, _⟩, _ => rfl
    | ⟨3, _⟩, _ => rfl
    | ⟨4, _⟩, _ => rfl
  match c with
  | ⟨0, _⟩ =>
    exact (concatenate_apply_piece (t := S4x8x4x1x128) 0 _ _ _ 0 (by show 0 < 4; decide) S1x8x4x1x128 _ rfl rfl 0 rfl (ix5 0 b h s j) off rfl).trans (layNew_apply ..)
  | ⟨1, _⟩ =>
    exact (concatenate_apply_piece (t := S4x8x4x1x128) 0 _ _ _ 1 (by show 1 < 4; decide) S1x8x4x1x128 _ rfl rfl 1 rfl (ix5 0 b h s j) off rfl).trans (layNew_apply ..)
  | ⟨2, _⟩ =>
    exact (concatenate_apply_piece (t := S4x8x4x1x128) 0 _ _ _ 2 (by show 2 < 4; decide) S1x8x4x1x128 _ rfl rfl 2 rfl (ix5 0 b h s j) off rfl).trans (layNew_apply ..)
  | ⟨3, _⟩ =>
    exact (concatenate_apply_piece (t := S4x8x4x1x128) 0 _ _ _ 3 (by show 3 < 4; decide) S1x8x4x1x128 _ rfl rfl 3 rfl (ix5 0 b h s j) off rfl).trans (layNew_apply ..)

theorem latAt_apply (c : Fin 4) (b : Fin 8) (h : Fin 4) (j : Fin 128) :
    latAt m d (ix2 (newAt c b h) j : S128x128.Idx) = latestIn m d c (ix4 b h 0 j) := by
  rw [latAt_eq]
  refine (shapeCast_apply _ _ _ (ix5 c b h 0 j) ?_).trans (stackedNew_apply (latestIn m d) c b h 0 j)
  rw [Shape.rowMajor_val_two, Shape.rowMajor_val_five]
  show (((c.val * 8 + b.val) * 4 + h.val) * 1 + 0) * 128 + j.val = (c.val * 32 + b.val * 4 + h.val) * 128 + j.val
  omega

theorem outAt_apply (c : Fin 4) (b : Fin 8) (h : Fin 4) (s : Fin 2048) (j : Fin 128) :
    outAt m d (ix2 (rowAt c b h s) j : S262144x128.Idx) = cachesIn m d c (ix4 b h s j) := by
  rw [outAt_eq]
  have hr : (b.val * 4 + h.val) * 2048 + s.val < 65536 := by omega
  refine (shapeCast_apply _ _ _ (ix3 c (⟨(b.val * 4 + h.val) * 2048 + s.val, hr⟩ : Fin 65536) j) ?_).trans ?_
  · rw [Shape.rowMajor_val_two, Shape.rowMajor_val_three]
    show (c.val * 65536 + ((b.val * 4 + h.val) * 2048 + s.val)) * 128 + j.val = (c.val * 65536 + (b.val * 4 + h.val) * 2048 + s.val) * 128 + j.val
    omega
  · refine (congrFun (rows_eq m d c) _).trans (shapeCast_apply _ _ _ (ix4 b h s j) ?_)
    rw [Shape.rowMajor_val_two, Shape.rowMajor_val_four]
    show ((b.val * 4 + h.val) * 2048 + s.val) * 128 + j.val = ((b.val * 4 + h.val) * 2048 + s.val) * 128 + j.val
    rfl

/-- The patched rows at an entry: the latest vector's where the row is the sequence's position, the cache's elsewhere. -/
theorem outThen_apply (hs : ∀ b, (positionsIn m d (ix2 b 0)).toNat < 2048) (c : Fin 4) (b : Fin 8) (h : Fin 4) (s : Fin 2048) (j : Fin 128) :
    outThen m d (ix2 (rowAt c b h s) j : S262144x128.Idx)
      = if s.val = slot c.val (positionsIn m d (ix2 b 0)).toNat then latestIn m d c (ix4 b h 0 j) else cachesIn m d c (ix4 b h s j) := by
  have ho : owner (rowAt c b h s).val = (b.val * 4 + h.val) * 4 + c.val := by unfold owner; show _ = _; simp only [rowAt]; omega
  have hq : seqOf (ownerF (rowAt c b h s)) = b := Fin.ext (by
    show owner (rowAt c b h s).val / 16 = b.val
    rw [ho]; omega)
  have hsl : slot (owner (rowAt c b h s).val) (positionsIn m d (ix2 b 0)).toNat = slot c.val (positionsIn m d (ix2 b 0)).toNat := by
    unfold slot; rw [ho, show ((b.val * 4 + h.val) * 4 + c.val) % 4 = c.val % 4 by omega]
  have hw : (rowWord (owner (rowAt c b h s).val) (wordsOf (posAt m d) (seqOf (ownerF (rowAt c b h s))))).toNat
      = c.val * 65536 + (b.val * 4 + h.val) * 2048 + slot c.val (positionsIn m d (ix2 b 0)).toNat := by
    rw [hq, wordsOf_apply, rowWord_toNat (owner_lt (rowAt c b h s).isLt) (hs b), hsl, ho]
    omega
  unfold outThen patched
  show (if (rowWord (owner (rowAt c b h s).val) (wordsOf (posAt m d) (seqOf (ownerF (rowAt c b h s))))).toNat = (rowAt c b h s).val
    then _ else outAt m d (ix2 (rowAt c b h s) j : S262144x128.Idx)) = _
  rw [hw, outAt_apply]
  refine if_ctx_congr ⟨fun e => ?_, fun e => ?_⟩ (fun _ => ?_) fun _ => rfl
  · have : c.val * 65536 + (b.val * 4 + h.val) * 2048 + slot c.val (positionsIn m d (ix2 b 0)).toNat
      = c.val * 65536 + (b.val * 4 + h.val) * 2048 + s.val := e
    omega
  · show _ = c.val * 65536 + (b.val * 4 + h.val) * 2048 + s.val
    rw [e]
  · refine Eq.trans (congrArg (latAt m d) (funext fun a => Fin.ext ?_)) (latAt_apply m d c b h j)
    match a with
    | ⟨0, _⟩ =>
      show srcRow (owner (rowAt c b h s).val) = c.val * 32 + b.val * 4 + h.val
      unfold srcRow; rw [ho]; omega
    | ⟨1, _⟩ => rfl

/-- Rows read as the four caches, at an entry. -/
theorem unrow_apply (y : Vec F S262144x128 .f32) (c : Fin 4) (b : Fin 8) (h : Fin 4) (s : Fin 2048) (j : Fin 128) :
    (shapeCast S4x8x4x2048x128 y shapeCasts_S262144x128_S4x8x4x2048x128 : Vec F S4x8x4x2048x128 .f32) (ix5 c b h s j)
      = y (ix2 (rowAt c b h s) j) := by
  refine shapeCast_apply _ _ _ _ ?_
  rw [Shape.rowMajor_val_two, Shape.rowMajor_val_five]
  show (c.val * 65536 + (b.val * 4 + h.val) * 2048 + s.val) * 128 + j.val
    = (((c.val * 8 + b.val) * 4 + h.val) * 2048 + s.val) * 128 + j.val
  omega

/-- The kernel's result is the four caches with the latest vectors put in their places. -/
theorem atEnd_want (hs : ∀ b, (positionsIn m d (ix2 b 0)).toNat < 2048) :
    atEnd m d (Proc.devRef .tc main_v15) = want (cachesIn m d) (latestIn m d) (positionsIn m d) := by
  rw [atEnd_eq]
  refine funext fun (i : S4x8x4x2048x128.Idx) => ?_
  rw [eq_ix5 i]
  exact (unrow_apply (outThen m d) (i 0) (i 1) (i 2) (i 3) (i 4)).trans (outThen_apply m d hs (i 0) (i 1) (i 2) (i 3) (i 4))

/-- The arguments, kept. -/
theorem args_kept :
    atEnd m d (Proc.devRef .tc main_arg0) = m (d, Proc.devRef .tc main_arg0) ∧ atEnd m d (Proc.devRef .tc main_arg1) = m (d, Proc.devRef .tc main_arg1)
    ∧ atEnd m d (Proc.devRef .tc main_arg2) = m (d, Proc.devRef .tc main_arg2) ∧ atEnd m d (Proc.devRef .tc main_arg3) = m (d, Proc.devRef .tc main_arg3)
    ∧ atEnd m d (Proc.devRef .tc main_arg4) = m (d, Proc.devRef .tc main_arg4) ∧ atEnd m d (Proc.devRef .tc main_arg5) = m (d, Proc.devRef .tc main_arg5)
    ∧ atEnd m d (Proc.devRef .tc main_arg6) = m (d, Proc.devRef .tc main_arg6) ∧ atEnd m d (Proc.devRef .tc main_arg7) = m (d, Proc.devRef .tc main_arg7)
    ∧ atEnd m d (Proc.devRef .tc main_arg8) = m (d, Proc.devRef .tc main_arg8) := by
  refine ⟨?_, ?_, ?_, ?_, ?_, ?_, ?_, ?_, ?_⟩ <;>
    exact (atEnd_of_before m d _ (by decide) (by decide) (by decide) (by decide)).trans (by unfold atCopy opsBefore; after_results)

end Cert.Proof

end
-- ==== Proof.Final.lean ====
/-
  The kernel's run with its result and arguments read, what the precondition says of the positions, and the
  reference's composed terms as the same value.
-/
module

public import proofs.«01_k».proof.Proof.Values
public import proofs.«01_k».proof.Proof.Gen.ReferenceIdeal.Run
public import proofs.«01_k».proof.Proof.Gen.Reference.Run
public import proofs.«01_k».proof.Proof.Gen.Pre_positions_in_cache
public import Idealize.ShloMosaic.Lib.ReduceAll

@[expose] public section

noncomputable section

namespace Cert.Proof

open Idealize.ShloMosaic Idealize.ShloMosaic.ValueIdx
open Idealize.ShloMosaic.TcCoe
open Idealize.SL.Sem

variable {F : FTy → Type} [FloatOps F]

/-- A word that is not negative and below 2048, read signed, is below 2048 read unsigned. -/
theorem small_of_signed (x : BitVec 32) (h : IntOp.andi (IntOp.cmpi .sge x 0#32) (IntOp.cmpi .slt x 2048#32) = 1#1) : x.toNat < 2048 := by
  have both : ∀ a b : BitVec 1, IntOp.andi a b = 1#1 → a = 1#1 ∧ b = 1#1 := by decide
  obtain ⟨h0, h1⟩ := both _ _ h
  have g0 := IntOp.cmpi_sge.1 h0
  have g1 := IntOp.cmpi_slt.1 h1
  rw [(by decide : (0#32 : BitVec 32).toInt = 0)] at g0
  rw [(by decide : (2048#32 : BitVec 32).toInt = 2048)] at g1
  rw [BitVec.toInt_eq_toNat_cond] at g0 g1
  have := x.isLt
  split at g0 <;> omega

/-- The precondition: every position is a row of the cache. -/
theorem small_of_pre (a0 a1 a2 a3 : FVec F Cert.Pre_positions_in_cache.S8x4x2048x128 .f32)
    (a4 a5 a6 a7 : FVec F Cert.Pre_positions_in_cache.S8x4x1x128 .f32) (p : IVec Cert.Pre_positions_in_cache.S8x1 32)
    (h : Cert.Pre_positions_in_cache.fn (F := F) a0 a1 a2 a3 a4 a5 a6 a7 p = fun _ => 1#1) (i : Cert.Pre_positions_in_cache.S8x1.Idx) :
    (p i).toNat < 2048 := by
  have : Subsingleton Cert.Pre_positions_in_cache.S_.Idx := ⟨fun a b => funext fun x => x.elim0⟩
  exact small_of_signed _ (Host.reduce_andi_all _ _ _ _ ix0 (congrFun h ix0) i)

section Kernel
open Cert.KernelIdeal Cert.KernelIdeal.Gen

/-- The kernel's run, for any float values: where every position is a row of the cache, it ends with the four caches
    with the latest vectors put in their places, its arguments as they were, and every semaphore at zero. -/
theorem kernel_run [∀ e, Nonempty (Elt F e)] (m : (ℓ : Loc nD τ sig) → Buf (Elt F) ℓ) (ρ : Dev nD → PrngReg)
    (hs : ∀ d b, (positionsIn m d (ix2 b 0)).toNat < 2048) :
    θ_run (Cert.KernelIdeal.defs (F := F)) (Cert.KernelIdeal.threads (F := F)) ⟨m, fun _ => 0, ρ⟩ fun r =>
      (∀ c : Dev nD, r.2.mem ((c.tc : Thread nD τ).loc main_v15) = want (cachesIn m c) (latestIn m c) (positionsIn m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))
      ∧ r.2.sem = fun _ => 0 := by
  refine (θ_run (Cert.KernelIdeal.defs (F := F)) _ _).mono (fun r h => ⟨fun c => ?_, h.2⟩)
    (run_main m ρ fun d b => (congrArg BitVec.toNat (wordsOf_apply m d b)).trans_lt (hs d b))
  obtain ⟨k0, k1, k2, k3, k4, k5, k6, k7, k8⟩ := args_kept m c
  exact ⟨(h.1 c _ (mem_arrs main_v15 rfl)).trans (atEnd_want m c (hs c)),
    (h.1 c _ (mem_arrs main_arg0 rfl)).trans k0, (h.1 c _ (mem_arrs main_arg1 rfl)).trans k1, (h.1 c _ (mem_arrs main_arg2 rfl)).trans k2,
    (h.1 c _ (mem_arrs main_arg3 rfl)).trans k3, (h.1 c _ (mem_arrs main_arg4 rfl)).trans k4, (h.1 c _ (mem_arrs main_arg5 rfl)).trans k5,
    (h.1 c _ (mem_arrs main_arg6 rfl)).trans k6, (h.1 c _ (mem_arrs main_arg7 rfl)).trans k7, (h.1 c _ (mem_arrs main_arg8 rfl)).trans k8⟩

end Kernel

section Ideal
open Cert.ReferenceIdeal

/-- The reference's composed term is its result of its arguments. -/
theorem refIdeal_eq (m : (ℓ : Loc nD τ sig) → Buf (Elt F) ℓ) (c : Dev nD) :
    Cert.ReferenceIdeal.Value.res_main_v73 m c
      = refOut ![m ((c.tc : Thread nD τ).loc main_arg0), m ((c.tc : Thread nD τ).loc main_arg1), m ((c.tc : Thread nD τ).loc main_arg2), m ((c.tc : Thread nD τ).loc main_arg3)]
          ![m ((c.tc : Thread nD τ).loc main_arg4), m ((c.tc : Thread nD τ).loc main_arg5), m ((c.tc : Thread nD τ).loc main_arg6), m ((c.tc : Thread nD τ).loc main_arg7)]
          (m ((c.tc : Thread nD τ).loc main_arg8)) := by
  unfold Cert.ReferenceIdeal.Value.res_main_v73 refOut scat pairs ring
  rfl

end Ideal

section Exact
open Cert.Reference

theorem ref_eq (m : (ℓ : Loc nD τ sig) → Buf (Elt F) ℓ) (c : Dev nD) :
    Cert.Reference.Value.res_main_v73 m c
      = refOut ![m ((c.tc : Thread nD τ).loc main_arg0), m ((c.tc : Thread nD τ).loc main_arg1), m ((c.tc : Thread nD τ).loc main_arg2), m ((c.tc : Thread nD τ).loc main_arg3)]
          ![m ((c.tc : Thread nD τ).loc main_arg4), m ((c.tc : Thread nD τ).loc main_arg5), m ((c.tc : Thread nD τ).loc main_arg6), m ((c.tc : Thread nD τ).loc main_arg7)]
          (m ((c.tc : Thread nD τ).loc main_arg8)) := by
  unfold Cert.Reference.Value.res_main_v73 refOut scat pairs ring
  rfl

end Exact

end Cert.Proof

end
-- ==== Proof.Same.lean ====
/-
  The program as printed and the program over ideal floats are one program, for any float values: a run of the one
  is a run of the other.
-/
module

public import proofs.«01_k».proof.Proof.Gen.Kernel
public import proofs.«01_k».proof.Proof.Gen.KernelIdeal
public import Idealize.ShloMosaic.PureOps

@[expose] public section

noncomputable section

namespace Cert.Proof

open Idealize.ShloMosaic
open Idealize.SL.Sem

variable {F : FTy → Type} [FloatOps F]

set_option maxHeartbeats 0 in
/-- The two programs' bodies are the same, processor by processor and label by label. -/
theorem bodies_same : @Cert.Kernel.defs₀ F _ = @Cert.KernelIdeal.defs₀ F _ := by
  funext p ℓ a
  match p, ℓ, a with
  | .tc, ⟨0, _⟩, (t, s) => rfl
  | .tc, ⟨1, _⟩, _ => rfl
  | .scScalar c, ⟨0, _⟩, _ => rfl
  | .scScalar c, ⟨1, _⟩, _ => rfl
  | .scVector _ _, ⟨0, _⟩, _ => rfl
  | .scVector _ _, ⟨1, _⟩, _ => rfl

/-- So are the bodies with the pipeline's and the dispatch's labels. -/
theorem defs_same : @Cert.Kernel.defs F _ = @Cert.KernelIdeal.defs F _ :=
  congrArg (fun D => Cert.KernelIdeal.sc.defs (Pipeline.defs Cert.KernelIdeal.pcfgs D)) bodies_same

/-- What holds at the end of the one's run holds at the end of the other's. -/
theorem run_same [∀ e, Nonempty (Elt F e)] (m : (ℓ : Loc Cert.KernelIdeal.nD Cert.KernelIdeal.τ Cert.KernelIdeal.sig) → Buf (Elt F) ℓ)
    (ρ : Dev Cert.KernelIdeal.nD → PrngReg) (Q Q' : _ → Prop) (hQ : ∀ r, Q r → Q' r)
    (h : θ_run (Cert.KernelIdeal.defs (F := F)) (Cert.KernelIdeal.threads (F := F)) ⟨m, fun _ => 0, ρ⟩ Q) :
    θ_run (Cert.Kernel.defs (F := F)) (Cert.Kernel.threads (F := F)) ⟨m, fun _ => 0, ρ⟩ Q' := by
  rw [defs_same]
  exact (θ_run (Cert.KernelIdeal.defs (F := F)) _ _).mono hQ h

end Cert.Proof

end
-- ==== Proof.lean ====
/-
  The certificate: the kernel's frames and the reference's, and the kernel's result as the reference's, over ideal and
  over bit-exact floats.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_positions_in_cache
public import proofs.«01_k».proof.Proof.Gen.ReferenceIdeal.Run
public import proofs.«01_k».proof.Proof.Gen.Reference.Run
public import proofs.«01_k».proof.Proof.Final
public import proofs.«01_k».proof.Proof.Same
public import Idealize.ShloMosaic.Lib.Quiescent

@[expose] public section

noncomputable section

namespace Cert.Proof

open Idealize.ShloMosaic Idealize.ShloMosaic.ValueIdx
open Idealize.ShloMosaic.TcCoe
open Idealize.SL.Sem

/-- Under the precondition every position is a row of the cache, over ideal floats. -/
theorem small_ideal (m : (ℓ : Loc Cert.KernelIdeal.nD Cert.KernelIdeal.τ Cert.KernelIdeal.sig) → Buf (Elt Ideal) ℓ) (h : Cert.Pre_KernelIdeal m)
    (d : Dev Cert.KernelIdeal.nD) (b : Fin 8) : (positionsIn m d (ix2 b 0)).toNat < 2048 :=
  small_of_pre (F := Ideal) _ _ _ _ _ _ _ _ _ (h d) (ix2 b 0)

/-- The same over bit-exact floats. -/
theorem small_exact (m : (ℓ : Loc Cert.KernelIdeal.nD Cert.KernelIdeal.τ Cert.KernelIdeal.sig) → Buf (Elt Bits) ℓ) (h : Cert.Pre_Kernel m)
    (d : Dev Cert.KernelIdeal.nD) (b : Fin 8) : (positionsIn m d (ix2 b 0)).toNat < 2048 :=
  small_of_pre (F := Bits) _ _ _ _ _ _ _ _ _ (h d) (ix2 b 0)

/-- The kernel runs, keeps its arguments and leaves every semaphore at zero. -/
theorem frame_kernel : Cert.quiescent_Kernel := fun m ρ h =>
  run_same m ρ _ _ (fun _ h => ⟨fun c => (h.1 c).2, h.2⟩) (kernel_run (F := Bits) m ρ (small_exact m h))

/-- The same over ideal floats. -/
theorem frame_kernelIdeal : Cert.quiescent_KernelIdeal := fun m ρ h =>
  (θ_run Cert.KernelIdeal.defs _ _).mono (fun _ h => ⟨fun c => (h.1 c).2, h.2⟩) (kernel_run (F := Ideal) m ρ (small_ideal m h))

/-- The reference runs, keeps its arguments and leaves every semaphore at zero: it has none. Over ideal floats. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same over bit-exact floats. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The kernel's result over ideal floats is the reference's. -/
theorem algebraic : Cert.algebraic_KernelIdeal_ReferenceIdeal := fun m ρ m' ρ' hpre hargs => by
  refine ⟨fun c => want (cachesIn m c) (latestIn m c) (positionsIn m c), ?_, ?_⟩
  · exact (θ_run Cert.KernelIdeal.defs _ _).mono (fun _ h => h.1) (kernel_run (F := Ideal) m ρ (small_ideal m hpre))
  · refine (θ_run Cert.ReferenceIdeal.defs _ _).mono (fun r h c => ⟨(h c).1.trans ?_, (h c).2⟩) (Cert.ReferenceIdeal.Value.run (F := Ideal) m' ρ')
    obtain ⟨e0, e1, e2, e3, e4, e5, e6, e7, e8⟩ := hargs c
    rw [refIdeal_eq, e0, e1, e2, e3, e4, e5, e6, e7, e8]
    exact refOut_eq (cachesIn m c) (latestIn m c) (positionsIn m c) (small_ideal m hpre c)

/-- The kernel's result is the reference's, bit for bit. -/
theorem bitexact : Cert.bitexact_Kernel_Reference := fun m ρ m' ρ' hpre hargs => by
  refine ⟨fun c => want (F := Bits) (cachesIn m c) (latestIn m c) (positionsIn m c), ?_, ?_⟩
  · exact run_same m ρ _ _ (fun _ h => h.1) (kernel_run (F := Bits) m ρ (small_exact m hpre))
  · refine (θ_run Cert.Reference.defs _ _).mono (fun r h c => ⟨(h c).1.trans ?_, (h c).2⟩) (Cert.Reference.Value.run (F := Bits) m' ρ')
    obtain ⟨e0, e1, e2, e3, e4, e5, e6, e7, e8⟩ := hargs c
    rw [ref_eq, e0, e1, e2, e3, e4, e5, e6, e7, e8]
    exact refOut_eq (F := Bits) (cachesIn m c) (latestIn m c) (positionsIn m c) (small_exact m hpre c)

/-- Everything the certificate claims. -/
theorem claim : Cert.Claim :=
  ⟨Cert.Kernel.Gen.facts, Cert.KernelIdeal.Gen.facts, Cert.ReferenceIdeal.Gen.facts, Cert.Reference.Gen.facts,
    Cert.Pre_positions_in_cache.Gen.facts, frame_kernel, frame_kernelIdeal, frame_referenceIdeal,
    fun m ρ _ => frame_referenceIdeal m ρ trivial, frame_reference, trivial, algebraic, bitexact⟩

end Cert.Proof

end
